-- ==== Defs.lean ====
def Pre_Kernel [hPre_exchanged_Kernel : Cert.Pre_exchanged_Kernel.Facts] (m : (ℓ : Loc Cert.Kernel.nD Cert.Kernel.τ Cert.Kernel.sig) → Buf (Elt Bits) ℓ) : Prop :=
  ∀ c : Dev Cert.Kernel.nD,
    (Cert.Pre_exchanged_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_identity_Kernel [hPre_identity_Kernel : Cert.Pre_identity_Kernel.Facts] (m : (ℓ : Loc Cert.Kernel.nD Cert.Kernel.τ Cert.Kernel.sig) → Buf (Elt Bits) ℓ) : Prop :=
  ∀ c : Dev Cert.Kernel.nD,
    (Cert.Pre_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchanged_Kernel : Cert.Pre_exchanged_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchanged_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_identity_Kernel [hPre_identity_Kernel : Cert.Pre_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchanged_ReferenceIdeal [hPre_exchanged_ReferenceIdeal : Cert.Pre_exchanged_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchanged_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_identity_ReferenceIdeal [hPre_identity_ReferenceIdeal : Cert.Pre_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_exchanged_Kernel : Cert.Pre_exchanged_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_identity_Kernel [hKernel : Cert.Kernel.Facts] [hPre_identity_Kernel : Cert.Pre_identity_Kernel.Facts] : Prop :=
  ∀ (m : (ℓ : Loc Cert.Kernel.nD Cert.Kernel.τ Cert.Kernel.sig) → Buf (Elt Bits) ℓ) (g : Dev Cert.Kernel.nD → PrngReg), Pre_Kernel_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchanged_Kernel : Cert.Pre_exchanged_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_identity_Kernel [hKernelIdeal : Cert.KernelIdeal.Facts] [hPre_identity_Kernel : Cert.Pre_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchanged_ReferenceIdeal [hReferenceIdeal : Cert.ReferenceIdeal.Facts] [hPre_exchanged_ReferenceIdeal : Cert.Pre_exchanged_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchanged_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_identity_ReferenceIdeal [hReferenceIdeal : Cert.ReferenceIdeal.Facts] [hPre_identity_ReferenceIdeal : Cert.Pre_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchanged_Kernel : Cert.Pre_exchanged_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_identity_Kernel [hKernelIdeal : Cert.KernelIdeal.Facts] [hReferenceIdeal : Cert.ReferenceIdeal.Facts] [hPre_identity_Kernel : Cert.Pre_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_identity_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exchanged_Kernel : Cert.Pre_exchanged_Kernel.Facts) (hPre_identity_Kernel : Cert.Pre_identity_Kernel.Facts) (hPre_exchanged_ReferenceIdeal : Cert.Pre_exchanged_ReferenceIdeal.Facts) (hPre_identity_ReferenceIdeal : Cert.Pre_identity_ReferenceIdeal.Facts),
    quiescent_Kernel (hKernel := hKernel) (hPre_exchanged_Kernel := hPre_exchanged_Kernel)
    ∧ quiescent_Kernel_pre_identity_Kernel (hKernel := hKernel) (hPre_identity_Kernel := hPre_identity_Kernel)
    ∧ quiescent_KernelIdeal (hKernelIdeal := hKernelIdeal) (hPre_exchanged_Kernel := hPre_exchanged_Kernel)
    ∧ quiescent_KernelIdeal_pre_identity_Kernel (hKernelIdeal := hKernelIdeal) (hPre_identity_Kernel := hPre_identity_Kernel)
    ∧ quiescent_ReferenceIdeal (hReferenceIdeal := hReferenceIdeal)
    ∧ quiescent_ReferenceIdeal_pre_exchanged_ReferenceIdeal (hReferenceIdeal := hReferenceIdeal) (hPre_exchanged_ReferenceIdeal := hPre_exchanged_ReferenceIdeal)
    ∧ quiescent_ReferenceIdeal_pre_identity_ReferenceIdeal (hReferenceIdeal := hReferenceIdeal) (hPre_identity_ReferenceIdeal := hPre_identity_ReferenceIdeal)
    ∧ preserves_Kernel_KernelIdeal
    ∧ algebraic_KernelIdeal_ReferenceIdeal (hKernelIdeal := hKernelIdeal) (hReferenceIdeal := hReferenceIdeal) (hPre_exchanged_Kernel := hPre_exchanged_Kernel)
    ∧ algebraic_KernelIdeal_ReferenceIdeal_pre_identity_Kernel (hKernelIdeal := hKernelIdeal) (hReferenceIdeal := hReferenceIdeal) (hPre_identity_Kernel := hPre_identity_Kernel)
-- ==== Pre_exchanged_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_exchanged_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_identity_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_identity_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S22 : Shape := ⟨1, ![22]⟩
abbrev S21 : Shape := ⟨1, ![21]⟩
abbrev S_ : Shape := ⟨0, ![]⟩
abbrev S1 : Shape := ⟨1, ![1]⟩
abbrev S1x32x1024 : Shape := ⟨3, ![1, 32, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .f32⟩
  | .local _ .vmem, ⟨0, _⟩ => ⟨S1x2048x1024, .f32⟩
  | .local _ .vmem, ⟨1, _⟩ => ⟨S1x2048x1024, .f32⟩
  | .local _ .smem, ⟨0, _⟩ => ⟨S2, .i32⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : Index := Scalar.indexCast v5
  ![v9.toNat]
def k0_dev1 (d0 : Dev nD) (v10 : BitVec 32) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v114 : BitVec 32 := Scalar.muli v2 c4_i32_55
  let v115 : BitVec 32 := Scalar.addi c0_i32_56 v114
  let c2_i32_57 : BitVec 32 := 2#32
  let v116 : BitVec 32 := Scalar.muli v10 c2_i32_57
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v118 : BitVec 32 := Scalar.muli v8 c1_i32_58
  let v119 : BitVec 32 := Scalar.addi v117 v118
  v119.toNat
def k0_cond2 (d0 : Dev nD) (v10 : BitVec 32) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 1 := Scalar.cmpi .ne v10 v5
  let v16 : BitVec 32 := Scalar.extui v15
  let c0_i32_3 : BitVec 32 := 0#32
  let v17 : BitVec 1 := Scalar.cmpi .ne v16 c0_i32_3
  v17

def k0_dev2 (d0 : Dev nD) : Nat :=
  let c0_i32_61 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_60 : BitVec 32 := 4#32
  let v120 : BitVec 32 := Scalar.muli v81 c4_i32_60
  let v121 : BitVec 32 := Scalar.addi c0_i32_61 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v122 : BitVec 32 := Scalar.muli v5 c2_i32_62
  let v123 : BitVec 32 := Scalar.addi v121 v122
  let c1_i32_63 : BitVec 32 := 1#32
  let v124 : BitVec 32 := Scalar.muli v70 c1_i32_63
  let v125 : BitVec 32 := Scalar.addi v123 v124
  v125.toNat
def k0_dev3 (d0 : Dev nD) : Nat :=
  let c0_i32_66 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_65 : BitVec 32 := 4#32
  let v126 : BitVec 32 := Scalar.muli v109 c4_i32_65
  let v127 : BitVec 32 := Scalar.addi c0_i32_66 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v128 : BitVec 32 := Scalar.muli v5 c2_i32_67
  let v129 : BitVec 32 := Scalar.addi v127 v128
  let c1_i32_68 : BitVec 32 := 1#32
  let v130 : BitVec 32 := Scalar.muli v98 c1_i32_68
  let v131 : BitVec 32 := Scalar.addi v129 v130
  v131.toNat
def k0_off2 (d0 : Dev nD) (c0_i32_71 : BitVec 32) : Fin 3 → Nat :=
  let c0_i32_78 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c512_i32 : BitVec 32 := 512#32
  let v110 : BitVec 32 := Scalar.muli v20 c512_i32
  let v133 : BitVec 32 := Scalar.addi v110 c0_i32_71
  let c0_i32_79 : BitVec 32 := 0#32
  ![0, v133.toNat, 0]
def k0_dev4 (d0 : Dev nD) (v10 : BitVec 32) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v134 : BitVec 32 := Scalar.muli v2 c4_i32_74
  let v135 : BitVec 32 := Scalar.addi c0_i32_75 v134
  let c2_i32_76 : BitVec 32 := 2#32
  let v136 : BitVec 32 := Scalar.muli v10 c2_i32_76
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v138 : BitVec 32 := Scalar.muli v8 c1_i32_77
  let v139 : BitVec 32 := Scalar.addi v137 v138
  v139.toNat
def k0_dev5 (d0 : Dev nD) (v10 : BitVec 32) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v148 : BitVec 32 := Scalar.muli v2 c4_i32_85
  let v149 : BitVec 32 := Scalar.addi c0_i32_86 v148
  let c2_i32_87 : BitVec 32 := 2#32
  let v150 : BitVec 32 := Scalar.muli v10 c2_i32_87
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v152 : BitVec 32 := Scalar.muli v8 c1_i32_88
  let v153 : BitVec 32 := Scalar.addi v151 v152
  v153.toNat
def k0_dev6 (d0 : Dev nD) (v10 : BitVec 32) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v162 : BitVec 32 := Scalar.muli v2 c4_i32_96
  let v163 : BitVec 32 := Scalar.addi c0_i32_97 v162
  let c2_i32_98 : BitVec 32 := 2#32
  let v164 : BitVec 32 := Scalar.muli v10 c2_i32_98
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v166 : BitVec 32 := Scalar.muli v8 c1_i32_99
  let v167 : BitVec 32 := Scalar.addi v165 v166
  v167.toNat
def k0_dev7 (d0 : Dev nD) (v10 : BitVec 32) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v176 : BitVec 32 := Scalar.muli v2 c4_i32_107
  let v177 : BitVec 32 := Scalar.addi c0_i32_108 v176
  let c2_i32_109 : BitVec 32 := 2#32
  let v178 : BitVec 32 := Scalar.muli v10 c2_i32_109
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v180 : BitVec 32 := Scalar.muli v8 c1_i32_110
  let v181 : BitVec 32 := Scalar.addi v179 v180
  v181.toNat
def k0_dev8 (d0 : Dev nD) (v10 : BitVec 32) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v190 : BitVec 32 := Scalar.muli v2 c4_i32_118
  let v191 : BitVec 32 := Scalar.addi c0_i32_119 v190
  let c2_i32_120 : BitVec 32 := 2#32
  let v192 : BitVec 32 := Scalar.muli v10 c2_i32_120
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v194 : BitVec 32 := Scalar.muli v8 c1_i32_121
  let v195 : BitVec 32 := Scalar.addi v193 v194
  v195.toNat
def k0_dev9 (d0 : Dev nD) (v10 : BitVec 32) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v204 : BitVec 32 := Scalar.muli v2 c4_i32_128
  let v205 : BitVec 32 := Scalar.addi c0_i32_129 v204
  let c2_i32_130 : BitVec 32 := 2#32
  let v206 : BitVec 32 := Scalar.muli v10 c2_i32_130
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v208 : BitVec 32 := Scalar.muli v8 c1_i32_131
  let v209 : BitVec 32 := Scalar.addi v207 v208
  v209.toNat
def k0_dev10 (d0 : Dev nD) (v10 : BitVec 32) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_138 : BitVec 32 := 4#32
  let v218 : BitVec 32 := Scalar.muli v2 c4_i32_138
  let v219 : BitVec 32 := Scalar.addi c0_i32_139 v218
  let c2_i32_140 : BitVec 32 := 2#32
  let v220 : BitVec 32 := Scalar.muli v10 c2_i32_140
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v222 : BitVec 32 := Scalar.muli v8 c1_i32_141
  let v223 : BitVec 32 := Scalar.addi v221 v222
  v223.toNat
def k0_dev11 (d0 : Dev nD) (v10 : BitVec 32) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v232 : BitVec 32 := Scalar.muli v2 c4_i32_148
  let v233 : BitVec 32 := Scalar.addi c0_i32_149 v232
  let c2_i32_150 : BitVec 32 := 2#32
  let v234 : BitVec 32 := Scalar.muli v10 c2_i32_150
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v236 : BitVec 32 := Scalar.muli v8 c1_i32_151
  let v237 : BitVec 32 := Scalar.addi v235 v236
  v237.toNat
def k0_dev12 (d0 : Dev nD) (v10 : BitVec 32) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v246 : BitVec 32 := Scalar.muli v2 c4_i32_158
  let v247 : BitVec 32 := Scalar.addi c0_i32_159 v246
  let c2_i32_160 : BitVec 32 := 2#32
  let v248 : BitVec 32 := Scalar.muli v10 c2_i32_160
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v250 : BitVec 32 := Scalar.muli v8 c1_i32_161
  let v251 : BitVec 32 := Scalar.addi v249 v250
  v251.toNat
def k0_dev13 (d0 : Dev nD) (v10 : BitVec 32) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v260 : BitVec 32 := Scalar.muli v2 c4_i32_168
  let v261 : BitVec 32 := Scalar.addi c0_i32_169 v260
  let c2_i32_170 : BitVec 32 := 2#32
  let v262 : BitVec 32 := Scalar.muli v10 c2_i32_170
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v264 : BitVec 32 := Scalar.muli v8 c1_i32_171
  let v265 : BitVec 32 := Scalar.addi v263 v264
  v265.toNat
def k0_dev14 (d0 : Dev nD) (v10 : BitVec 32) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v274 : BitVec 32 := Scalar.muli v2 c4_i32_178
  let v275 : BitVec 32 := Scalar.addi c0_i32_179 v274
  let c2_i32_180 : BitVec 32 := 2#32
  let v276 : BitVec 32 := Scalar.muli v10 c2_i32_180
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v278 : BitVec 32 := Scalar.muli v8 c1_i32_181
  let v279 : BitVec 32 := Scalar.addi v277 v278
  v279.toNat
def k0_dev15 (d0 : Dev nD) (v10 : BitVec 32) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v288 : BitVec 32 := Scalar.muli v2 c4_i32_188
  let v289 : BitVec 32 := Scalar.addi c0_i32_189 v288
  let c2_i32_190 : BitVec 32 := 2#32
  let v290 : BitVec 32 := Scalar.muli v10 c2_i32_190
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v292 : BitVec 32 := Scalar.muli v8 c1_i32_191
  let v293 : BitVec 32 := Scalar.addi v291 v292
  v293.toNat
def k0_dev16 (d0 : Dev nD) (v10 : BitVec 32) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v302 : BitVec 32 := Scalar.muli v2 c4_i32_198
  let v303 : BitVec 32 := Scalar.addi c0_i32_199 v302
  let c2_i32_200 : BitVec 32 := 2#32
  let v304 : BitVec 32 := Scalar.muli v10 c2_i32_200
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v306 : BitVec 32 := Scalar.muli v8 c1_i32_201
  let v307 : BitVec 32 := Scalar.addi v305 v306
  v307.toNat
def k0_dev17 (d0 : Dev nD) (v10 : BitVec 32) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v316 : BitVec 32 := Scalar.muli v2 c4_i32_208
  let v317 : BitVec 32 := Scalar.addi c0_i32_209 v316
  let c2_i32_210 : BitVec 32 := 2#32
  let v318 : BitVec 32 := Scalar.muli v10 c2_i32_210
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v320 : BitVec 32 := Scalar.muli v8 c1_i32_211
  let v321 : BitVec 32 := Scalar.addi v319 v320
  v321.toNat
def k0_dev18 (d0 : Dev nD) (v10 : BitVec 32) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v330 : BitVec 32 := Scalar.muli v2 c4_i32_218
  let v331 : BitVec 32 := Scalar.addi c0_i32_219 v330
  let c2_i32_220 : BitVec 32 := 2#32
  let v332 : BitVec 32 := Scalar.muli v10 c2_i32_220
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v334 : BitVec 32 := Scalar.muli v8 c1_i32_221
  let v335 : BitVec 32 := Scalar.addi v333 v334
  v335.toNat
def k0_dev19 (d0 : Dev nD) (v10 : BitVec 32) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v344 : BitVec 32 := Scalar.muli v2 c4_i32_228
  let v345 : BitVec 32 := Scalar.addi c0_i32_229 v344
  let c2_i32_230 : BitVec 32 := 2#32
  let v346 : BitVec 32 := Scalar.muli v10 c2_i32_230
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v348 : BitVec 32 := Scalar.muli v8 c1_i32_231
  let v349 : BitVec 32 := Scalar.addi v347 v348
  v349.toNat
def k0_off3 (d0 : Dev nD) (c2_i32_18 : BitVec 32) (c0_i32_237 : BitVec 32) : Fin 3 → Nat :=
  let c0_i32_243 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let v43 : BitVec 32 := Scalar.addi v20 c2_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let c512_i32_53 : BitVec 32 := 512#32
  let v113 : BitVec 32 := Scalar.muli v53 c512_i32_53
  let v357 : BitVec 32 := Scalar.addi v113 c0_i32_237
  let c0_i32_244 : BitVec 32 := 0#32
  ![0, v357.toNat, 0]
def k0_dev20 (d0 : Dev nD) (v10 : BitVec 32) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v358 : BitVec 32 := Scalar.muli v2 c4_i32_239
  let v359 : BitVec 32 := Scalar.addi c0_i32_240 v358
  let c2_i32_241 : BitVec 32 := 2#32
  let v360 : BitVec 32 := Scalar.muli v10 c2_i32_241
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v362 : BitVec 32 := Scalar.muli v8 c1_i32_242
  let v363 : BitVec 32 := Scalar.addi v361 v362
  v363.toNat
def k0_dev21 (d0 : Dev nD) (v10 : BitVec 32) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v372 : BitVec 32 := Scalar.muli v2 c4_i32_250
  let v373 : BitVec 32 := Scalar.addi c0_i32_251 v372
  let c2_i32_252 : BitVec 32 := 2#32
  let v374 : BitVec 32 := Scalar.muli v10 c2_i32_252
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v376 : BitVec 32 := Scalar.muli v8 c1_i32_253
  let v377 : BitVec 32 := Scalar.addi v375 v376
  v377.toNat
def k0_dev22 (d0 : Dev nD) (v10 : BitVec 32) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v386 : BitVec 32 := Scalar.muli v2 c4_i32_261
  let v387 : BitVec 32 := Scalar.addi c0_i32_262 v386
  let c2_i32_263 : BitVec 32 := 2#32
  let v388 : BitVec 32 := Scalar.muli v10 c2_i32_263
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v390 : BitVec 32 := Scalar.muli v8 c1_i32_264
  let v391 : BitVec 32 := Scalar.addi v389 v390
  v391.toNat
def k0_dev23 (d0 : Dev nD) (v10 : BitVec 32) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v400 : BitVec 32 := Scalar.muli v2 c4_i32_272
  let v401 : BitVec 32 := Scalar.addi c0_i32_273 v400
  let c2_i32_274 : BitVec 32 := 2#32
  let v402 : BitVec 32 := Scalar.muli v10 c2_i32_274
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_275 : BitVec 32 := 1#32
  let v404 : BitVec 32 := Scalar.muli v8 c1_i32_275
  let v405 : BitVec 32 := Scalar.addi v403 v404
  v405.toNat
def k0_dev24 (d0 : Dev nD) (v10 : BitVec 32) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v414 : BitVec 32 := Scalar.muli v2 c4_i32_283
  let v415 : BitVec 32 := Scalar.addi c0_i32_284 v414
  let c2_i32_285 : BitVec 32 := 2#32
  let v416 : BitVec 32 := Scalar.muli v10 c2_i32_285
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v418 : BitVec 32 := Scalar.muli v8 c1_i32_286
  let v419 : BitVec 32 := Scalar.addi v417 v418
  v419.toNat
def k0_dev25 (d0 : Dev nD) (v10 : BitVec 32) : Nat :=
  let c0_i32_295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_294 : BitVec 32 := 4#32
  let v428 : BitVec 32 := Scalar.muli v2 c4_i32_294
  let v429 : BitVec 32 := Scalar.addi c0_i32_295 v428
  let c2_i32_296 : BitVec 32 := 2#32
  let v430 : BitVec 32 := Scalar.muli v10 c2_i32_296
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v432 : BitVec 32 := Scalar.muli v8 c1_i32_297
  let v433 : BitVec 32 := Scalar.addi v431 v432
  v433.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev4 d0 v10) < nD) ∧
  (∀ (k0_h2 : k0_cond2 d0 v10 = 1#1), (k0_dev5 d0 v10) < nD) ∧
  (∀ (k0_h2 : k0_cond2 d0 v10 = 1#1), (k0_dev6 d0 v10) < nD) ∧
  (∀ (k0_h2 : k0_cond2 d0 v10 = 1#1), (k0_dev7 d0 v10) < nD) ∧
  (∀ (k0_h2 : k0_cond2 d0 v10 = 1#1), (k0_dev8 d0 v10) < nD) ∧
  (∀ (k0_h2 : k0_cond2 d0 v10 = 1#1), (k0_dev9 d0 v10) < nD) ∧
  (∀ (k0_h2 : k0_cond2 d0 v10 = 1#1), (k0_dev10 d0 v10) < nD) ∧
  (∀ (k0_h2 : k0_cond2 d0 v10 = 1#1), (k0_dev11 d0 v10) < nD) ∧
  (∀ (k0_h2 : k0_cond2 d0 v10 = 1#1), (k0_dev12 d0 v10) < nD) ∧
  (∀ (k0_h2 : k0_cond2 d0 v10 = 1#1), (k0_dev13 d0 v10) < nD) ∧
  (∀ (k0_h2 : k0_cond2 d0 v10 = 1#1), (k0_dev14 d0 v10) < nD) ∧
  (∀ (k0_h2 : k0_cond2 d0 v10 = 1#1), (k0_dev15 d0 v10) < nD) ∧
  (∀ (k0_h2 : k0_cond2 d0 v10 = 1#1), (k0_dev16 d0 v10) < nD) ∧
  (∀ (k0_h2 : k0_cond2 d0 v10 = 1#1), (k0_dev17 d0 v10) < nD) ∧
  (∀ (k0_h2 : k0_cond2 d0 v10 = 1#1), (k0_dev18 d0 v10) < nD) ∧
  (∀ (k0_h2 : k0_cond2 d0 v10 = 1#1), (k0_dev19 d0 v10) < nD) ∧
  (∀ (k0_h2 : k0_cond2 d0 v10 = 1#1), (k0_dev20 d0 v10) < nD) ∧
  (∀ (k0_h2 : k0_cond2 d0 v10 = 1#1), (k0_dev21 d0 v10) < nD) ∧
  (∀ (k0_h2 : k0_cond2 d0 v10 = 1#1), (k0_dev22 d0 v10) < nD) ∧
  (∀ (k0_h2 : k0_cond2 d0 v10 = 1#1), (k0_dev23 d0 v10) < nD) ∧
  (∀ (k0_h2 : k0_cond2 d0 v10 = 1#1), (k0_dev24 d0 v10) < nD) ∧
  (∀ (k0_h2 : k0_cond2 d0 v10 = 1#1), (k0_dev25 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev4_lt : ∀ (d0 : Dev nD) (v10 : BitVec 32) (k0_hw1 : k0_chk1 d0 v10), ∀ (k0_h2 : k0_cond2 d0 v10 = 1#1), (k0_dev4 d0 v10) < nD := fun d0 v10 k0_hw1 k0_h2 => k0_hw1.2.1 k0_h2
theorem k0_dev5_lt : ∀ (d0 : Dev nD) (v10 : BitVec 32) (k0_hw1 : k0_chk1 d0 v10), ∀ (k0_h2 : k0_cond2 d0 v10 = 1#1), (k0_dev5 d0 v10) < nD := fun d0 v10 k0_hw1 k0_h2 => k0_hw1.2.2.1 k0_h2
theorem k0_dev6_lt : ∀ (d0 : Dev nD) (v10 : BitVec 32) (k0_hw1 : k0_chk1 d0 v10), ∀ (k0_h2 : k0_cond2 d0 v10 = 1#1), (k0_dev6 d0 v10) < nD := fun d0 v10 k0_hw1 k0_h2 => k0_hw1.2.2.2.1 k0_h2
theorem k0_dev7_lt : ∀ (d0 : Dev nD) (v10 : BitVec 32) (k0_hw1 : k0_chk1 d0 v10), ∀ (k0_h2 : k0_cond2 d0 v10 = 1#1), (k0_dev7 d0 v10) < nD := fun d0 v10 k0_hw1 k0_h2 => k0_hw1.2.2.2.2.1 k0_h2
theorem k0_dev8_lt : ∀ (d0 : Dev nD) (v10 : BitVec 32) (k0_hw1 : k0_chk1 d0 v10), ∀ (k0_h2 : k0_cond2 d0 v10 = 1#1), (k0_dev8 d0 v10) < nD := fun d0 v10 k0_hw1 k0_h2 => k0_hw1.2.2.2.2.2.1 k0_h2
theorem k0_dev9_lt : ∀ (d0 : Dev nD) (v10 : BitVec 32) (k0_hw1 : k0_chk1 d0 v10), ∀ (k0_h2 : k0_cond2 d0 v10 = 1#1), (k0_dev9 d0 v10) < nD := fun d0 v10 k0_hw1 k0_h2 => k0_hw1.2.2.2.2.2.2.1 k0_h2
theorem k0_dev10_lt : ∀ (d0 : Dev nD) (v10 : BitVec 32) (k0_hw1 : k0_chk1 d0 v10), ∀ (k0_h2 : k0_cond2 d0 v10 = 1#1), (k0_dev10 d0 v10) < nD := fun d0 v10 k0_hw1 k0_h2 => k0_hw1.2.2.2.2.2.2.2.1 k0_h2
theorem k0_dev11_lt : ∀ (d0 : Dev nD) (v10 : BitVec 32) (k0_hw1 : k0_chk1 d0 v10), ∀ (k0_h2 : k0_cond2 d0 v10 = 1#1), (k0_dev11 d0 v10) < nD := fun d0 v10 k0_hw1 k0_h2 => k0_hw1.2.2.2.2.2.2.2.2.1 k0_h2
theorem k0_dev12_lt : ∀ (d0 : Dev nD) (v10 : BitVec 32) (k0_hw1 : k0_chk1 d0 v10), ∀ (k0_h2 : k0_cond2 d0 v10 = 1#1), (k0_dev12 d0 v10) < nD := fun d0 v10 k0_hw1 k0_h2 => k0_hw1.2.2.2.2.2.2.2.2.2.1 k0_h2
theorem k0_dev13_lt : ∀ (d0 : Dev nD) (v10 : BitVec 32) (k0_hw1 : k0_chk1 d0 v10), ∀ (k0_h2 : k0_cond2 d0 v10 = 1#1), (k0_dev13 d0 v10) < nD := fun d0 v10 k0_hw1 k0_h2 => k0_hw1.2.2.2.2.2.2.2.2.2.2.1 k0_h2
theorem k0_dev14_lt : ∀ (d0 : Dev nD) (v10 : BitVec 32) (k0_hw1 : k0_chk1 d0 v10), ∀ (k0_h2 : k0_cond2 d0 v10 = 1#1), (k0_dev14 d0 v10) < nD := fun d0 v10 k0_hw1 k0_h2 => k0_hw1.2.2.2.2.2.2.2.2.2.2.2.1 k0_h2
theorem k0_dev15_lt : ∀ (d0 : Dev nD) (v10 : BitVec 32) (k0_hw1 : k0_chk1 d0 v10), ∀ (k0_h2 : k0_cond2 d0 v10 = 1#1), (k0_dev15 d0 v10) < nD := fun d0 v10 k0_hw1 k0_h2 => k0_hw1.2.2.2.2.2.2.2.2.2.2.2.2.1 k0_h2
theorem k0_dev16_lt : ∀ (d0 : Dev nD) (v10 : BitVec 32) (k0_hw1 : k0_chk1 d0 v10), ∀ (k0_h2 : k0_cond2 d0 v10 = 1#1), (k0_dev16 d0 v10) < nD := fun d0 v10 k0_hw1 k0_h2 => k0_hw1.2.2.2.2.2.2.2.2.2.2.2.2.2.1 k0_h2
theorem k0_dev17_lt : ∀ (d0 : Dev nD) (v10 : BitVec 32) (k0_hw1 : k0_chk1 d0 v10), ∀ (k0_h2 : k0_cond2 d0 v10 = 1#1), (k0_dev17 d0 v10) < nD := fun d0 v10 k0_hw1 k0_h2 => k0_hw1.2.2.2.2.2.2.2.2.2.2.2.2.2.2.1 k0_h2
theorem k0_dev18_lt : ∀ (d0 : Dev nD) (v10 : BitVec 32) (k0_hw1 : k0_chk1 d0 v10), ∀ (k0_h2 : k0_cond2 d0 v10 = 1#1), (k0_dev18 d0 v10) < nD := fun d0 v10 k0_hw1 k0_h2 => k0_hw1.2.2.2.2.2.2.2.2.2.2.2.2.2.2.2.1 k0_h2
theorem k0_dev19_lt : ∀ (d0 : Dev nD) (v10 : BitVec 32) (k0_hw1 : k0_chk1 d0 v10), ∀ (k0_h2 : k0_cond2 d0 v10 = 1#1), (k0_dev19 d0 v10) < nD := fun d0 v10 k0_hw1 k0_h2 => k0_hw1.2.2.2.2.2.2.2.2.2.2.2.2.2.2.2.2.1 k0_h2
theorem k0_dev20_lt : ∀ (d0 : Dev nD) (v10 : BitVec 32) (k0_hw1 : k0_chk1 d0 v10), ∀ (k0_h2 : k0_cond2 d0 v10 = 1#1), (k0_dev20 d0 v10) < nD := fun d0 v10 k0_hw1 k0_h2 => k0_hw1.2.2.2.2.2.2.2.2.2.2.2.2.2.2.2.2.2.1 k0_h2
theorem k0_dev21_lt : ∀ (d0 : Dev nD) (v10 : BitVec 32) (k0_hw1 : k0_chk1 d0 v10), ∀ (k0_h2 : k0_cond2 d0 v10 = 1#1), (k0_dev21 d0 v10) < nD := fun d0 v10 k0_hw1 k0_h2 => k0_hw1.2.2.2.2.2.2.2.2.2.2.2.2.2.2.2.2.2.2.1 k0_h2
theorem k0_dev22_lt : ∀ (d0 : Dev nD) (v10 : BitVec 32) (k0_hw1 : k0_chk1 d0 v10), ∀ (k0_h2 : k0_cond2 d0 v10 = 1#1), (k0_dev22 d0 v10) < nD := fun d0 v10 k0_hw1 k0_h2 => k0_hw1.2.2.2.2.2.2.2.2.2.2.2.2.2.2.2.2.2.2.2.1 k0_h2
theorem k0_dev23_lt : ∀ (d0 : Dev nD) (v10 : BitVec 32) (k0_hw1 : k0_chk1 d0 v10), ∀ (k0_h2 : k0_cond2 d0 v10 = 1#1), (k0_dev23 d0 v10) < nD := fun d0 v10 k0_hw1 k0_h2 => k0_hw1.2.2.2.2.2.2.2.2.2.2.2.2.2.2.2.2.2.2.2.2.1 k0_h2
theorem k0_dev24_lt : ∀ (d0 : Dev nD) (v10 : BitVec 32) (k0_hw1 : k0_chk1 d0 v10), ∀ (k0_h2 : k0_cond2 d0 v10 = 1#1), (k0_dev24 d0 v10) < nD := fun d0 v10 k0_hw1 k0_h2 => k0_hw1.2.2.2.2.2.2.2.2.2.2.2.2.2.2.2.2.2.2.2.2.2.1 k0_h2
theorem k0_dev25_lt : ∀ (d0 : Dev nD) (v10 : BitVec 32) (k0_hw1 : k0_chk1 d0 v10), ∀ (k0_h2 : k0_cond2 d0 v10 = 1#1), (k0_dev25 d0 v10) < nD := fun d0 v10 k0_hw1 k0_h2 => k0_hw1.2.2.2.2.2.2.2.2.2.2.2.2.2.2.2.2.2.2.2.2.2.2 k0_h2

def k0_dev26 (d0 : Dev nD) : Nat :=
  let c0_i32_317 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_316 : BitVec 32 := 4#32
  let v453 : BitVec 32 := Scalar.muli v81 c4_i32_316
  let v454 : BitVec 32 := Scalar.addi c0_i32_317 v453
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_318 : BitVec 32 := 2#32
  let v455 : BitVec 32 := Scalar.muli v5 c2_i32_318
  let v456 : BitVec 32 := Scalar.addi v454 v455
  let c1_i32_319 : BitVec 32 := 1#32
  let v457 : BitVec 32 := Scalar.muli v70 c1_i32_319
  let v458 : BitVec 32 := Scalar.addi v456 v457
  v458.toNat
def k0_dev27 (d0 : Dev nD) : Nat :=
  let c0_i32_329 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_328 : BitVec 32 := 4#32
  let v467 : BitVec 32 := Scalar.muli v109 c4_i32_328
  let v468 : BitVec 32 := Scalar.addi c0_i32_329 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v469 : BitVec 32 := Scalar.muli v5 c2_i32_330
  let v470 : BitVec 32 := Scalar.addi v468 v469
  let c1_i32_331 : BitVec 32 := 1#32
  let v471 : BitVec 32 := Scalar.muli v98 c1_i32_331
  let v472 : BitVec 32 := Scalar.addi v470 v471
  v472.toNat
def k0_dev28 (d0 : Dev nD) : Nat :=
  let c0_i32_351 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_350 : BitVec 32 := 4#32
  let v492 : BitVec 32 := Scalar.muli v81 c4_i32_350
  let v493 : BitVec 32 := Scalar.addi c0_i32_351 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v494 : BitVec 32 := Scalar.muli v5 c2_i32_352
  let v495 : BitVec 32 := Scalar.addi v493 v494
  let c1_i32_353 : BitVec 32 := 1#32
  let v496 : BitVec 32 := Scalar.muli v70 c1_i32_353
  let v497 : BitVec 32 := Scalar.addi v495 v496
  v497.toNat
def k0_dev29 (d0 : Dev nD) : Nat :=
  let c0_i32_363 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_362 : BitVec 32 := 4#32
  let v506 : BitVec 32 := Scalar.muli v109 c4_i32_362
  let v507 : BitVec 32 := Scalar.addi c0_i32_363 v506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v508 : BitVec 32 := Scalar.muli v5 c2_i32_364
  let v509 : BitVec 32 := Scalar.addi v507 v508
  let c1_i32_365 : BitVec 32 := 1#32
  let v510 : BitVec 32 := Scalar.muli v98 c1_i32_365
  let v511 : BitVec 32 := Scalar.addi v509 v510
  v511.toNat
def k0_dev30 (d0 : Dev nD) : Nat :=
  let c0_i32_385 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_384 : BitVec 32 := 4#32
  let v531 : BitVec 32 := Scalar.muli v81 c4_i32_384
  let v532 : BitVec 32 := Scalar.addi c0_i32_385 v531
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v533 : BitVec 32 := Scalar.muli v5 c2_i32_386
  let v534 : BitVec 32 := Scalar.addi v532 v533
  let c1_i32_387 : BitVec 32 := 1#32
  let v535 : BitVec 32 := Scalar.muli v70 c1_i32_387
  let v536 : BitVec 32 := Scalar.addi v534 v535
  v536.toNat
def k0_dev31 (d0 : Dev nD) : Nat :=
  let c0_i32_397 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_396 : BitVec 32 := 4#32
  let v545 : BitVec 32 := Scalar.muli v109 c4_i32_396
  let v546 : BitVec 32 := Scalar.addi c0_i32_397 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_398 : BitVec 32 := 2#32
  let v547 : BitVec 32 := Scalar.muli v5 c2_i32_398
  let v548 : BitVec 32 := Scalar.addi v546 v547
  let c1_i32_399 : BitVec 32 := 1#32
  let v549 : BitVec 32 := Scalar.muli v98 c1_i32_399
  let v550 : BitVec 32 := Scalar.addi v548 v549
  v550.toNat
def k0_dev32 (d0 : Dev nD) : Nat :=
  let c0_i32_419 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_418 : BitVec 32 := 4#32
  let v570 : BitVec 32 := Scalar.muli v81 c4_i32_418
  let v571 : BitVec 32 := Scalar.addi c0_i32_419 v570
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_420 : BitVec 32 := 2#32
  let v572 : BitVec 32 := Scalar.muli v5 c2_i32_420
  let v573 : BitVec 32 := Scalar.addi v571 v572
  let c1_i32_421 : BitVec 32 := 1#32
  let v574 : BitVec 32 := Scalar.muli v70 c1_i32_421
  let v575 : BitVec 32 := Scalar.addi v573 v574
  v575.toNat
def k0_dev33 (d0 : Dev nD) : Nat :=
  let c0_i32_431 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_430 : BitVec 32 := 4#32
  let v584 : BitVec 32 := Scalar.muli v109 c4_i32_430
  let v585 : BitVec 32 := Scalar.addi c0_i32_431 v584
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v586 : BitVec 32 := Scalar.muli v5 c2_i32_432
  let v587 : BitVec 32 := Scalar.addi v585 v586
  let c1_i32_433 : BitVec 32 := 1#32
  let v588 : BitVec 32 := Scalar.muli v98 c1_i32_433
  let v589 : BitVec 32 := Scalar.addi v587 v588
  v589.toNat
def k0_dev34 (d0 : Dev nD) : Nat :=
  let c0_i32_453 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_452 : BitVec 32 := 4#32
  let v609 : BitVec 32 := Scalar.muli v81 c4_i32_452
  let v610 : BitVec 32 := Scalar.addi c0_i32_453 v609
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_454 : BitVec 32 := 2#32
  let v611 : BitVec 32 := Scalar.muli v5 c2_i32_454
  let v612 : BitVec 32 := Scalar.addi v610 v611
  let c1_i32_455 : BitVec 32 := 1#32
  let v613 : BitVec 32 := Scalar.muli v70 c1_i32_455
  let v614 : BitVec 32 := Scalar.addi v612 v613
  v614.toNat
def k0_dev35 (d0 : Dev nD) : Nat :=
  let c0_i32_465 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_464 : BitVec 32 := 4#32
  let v623 : BitVec 32 := Scalar.muli v109 c4_i32_464
  let v624 : BitVec 32 := Scalar.addi c0_i32_465 v623
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_466 : BitVec 32 := 2#32
  let v625 : BitVec 32 := Scalar.muli v5 c2_i32_466
  let v626 : BitVec 32 := Scalar.addi v624 v625
  let c1_i32_467 : BitVec 32 := 1#32
  let v627 : BitVec 32 := Scalar.muli v98 c1_i32_467
  let v628 : BitVec 32 := Scalar.addi v626 v627
  v628.toNat
def k0_dev36 (d0 : Dev nD) : Nat :=
  let c0_i32_487 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_486 : BitVec 32 := 4#32
  let v648 : BitVec 32 := Scalar.muli v81 c4_i32_486
  let v649 : BitVec 32 := Scalar.addi c0_i32_487 v648
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v650 : BitVec 32 := Scalar.muli v5 c2_i32_488
  let v651 : BitVec 32 := Scalar.addi v649 v650
  let c1_i32_489 : BitVec 32 := 1#32
  let v652 : BitVec 32 := Scalar.muli v70 c1_i32_489
  let v653 : BitVec 32 := Scalar.addi v651 v652
  v653.toNat
def k0_dev37 (d0 : Dev nD) : Nat :=
  let c0_i32_499 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_498 : BitVec 32 := 4#32
  let v662 : BitVec 32 := Scalar.muli v109 c4_i32_498
  let v663 : BitVec 32 := Scalar.addi c0_i32_499 v662
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_500 : BitVec 32 := 2#32
  let v664 : BitVec 32 := Scalar.muli v5 c2_i32_500
  let v665 : BitVec 32 := Scalar.addi v663 v664
  let c1_i32_501 : BitVec 32 := 1#32
  let v666 : BitVec 32 := Scalar.muli v98 c1_i32_501
  let v667 : BitVec 32 := Scalar.addi v665 v666
  v667.toNat
def k0_dev38 (d0 : Dev nD) : Nat :=
  let c0_i32_521 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_520 : BitVec 32 := 4#32
  let v687 : BitVec 32 := Scalar.muli v81 c4_i32_520
  let v688 : BitVec 32 := Scalar.addi c0_i32_521 v687
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_522 : BitVec 32 := 2#32
  let v689 : BitVec 32 := Scalar.muli v5 c2_i32_522
  let v690 : BitVec 32 := Scalar.addi v688 v689
  let c1_i32_523 : BitVec 32 := 1#32
  let v691 : BitVec 32 := Scalar.muli v70 c1_i32_523
  let v692 : BitVec 32 := Scalar.addi v690 v691
  v692.toNat
def k0_dev39 (d0 : Dev nD) : Nat :=
  let c0_i32_533 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_532 : BitVec 32 := 4#32
  let v701 : BitVec 32 := Scalar.muli v109 c4_i32_532
  let v702 : BitVec 32 := Scalar.addi c0_i32_533 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_534 : BitVec 32 := 2#32
  let v703 : BitVec 32 := Scalar.muli v5 c2_i32_534
  let v704 : BitVec 32 := Scalar.addi v702 v703
  let c1_i32_535 : BitVec 32 := 1#32
  let v705 : BitVec 32 := Scalar.muli v98 c1_i32_535
  let v706 : BitVec 32 := Scalar.addi v704 v705
  v706.toNat
def k0_dev40 (d0 : Dev nD) : Nat :=
  let c0_i32_555 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_554 : BitVec 32 := 4#32
  let v726 : BitVec 32 := Scalar.muli v81 c4_i32_554
  let v727 : BitVec 32 := Scalar.addi c0_i32_555 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_556 : BitVec 32 := 2#32
  let v728 : BitVec 32 := Scalar.muli v5 c2_i32_556
  let v729 : BitVec 32 := Scalar.addi v727 v728
  let c1_i32_557 : BitVec 32 := 1#32
  let v730 : BitVec 32 := Scalar.muli v70 c1_i32_557
  let v731 : BitVec 32 := Scalar.addi v729 v730
  v731.toNat
def k0_dev41 (d0 : Dev nD) : Nat :=
  let c0_i32_567 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_566 : BitVec 32 := 4#32
  let v740 : BitVec 32 := Scalar.muli v109 c4_i32_566
  let v741 : BitVec 32 := Scalar.addi c0_i32_567 v740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_568 : BitVec 32 := 2#32
  let v742 : BitVec 32 := Scalar.muli v5 c2_i32_568
  let v743 : BitVec 32 := Scalar.addi v741 v742
  let c1_i32_569 : BitVec 32 := 1#32
  let v744 : BitVec 32 := Scalar.muli v98 c1_i32_569
  let v745 : BitVec 32 := Scalar.addi v743 v744
  v745.toNat
def k0_dev42 (d0 : Dev nD) : Nat :=
  let c0_i32_589 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_588 : BitVec 32 := 4#32
  let v765 : BitVec 32 := Scalar.muli v81 c4_i32_588
  let v766 : BitVec 32 := Scalar.addi c0_i32_589 v765
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_590 : BitVec 32 := 2#32
  let v767 : BitVec 32 := Scalar.muli v5 c2_i32_590
  let v768 : BitVec 32 := Scalar.addi v766 v767
  let c1_i32_591 : BitVec 32 := 1#32
  let v769 : BitVec 32 := Scalar.muli v70 c1_i32_591
  let v770 : BitVec 32 := Scalar.addi v768 v769
  v770.toNat
def k0_dev43 (d0 : Dev nD) : Nat :=
  let c0_i32_601 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_600 : BitVec 32 := 4#32
  let v779 : BitVec 32 := Scalar.muli v109 c4_i32_600
  let v780 : BitVec 32 := Scalar.addi c0_i32_601 v779
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_602 : BitVec 32 := 2#32
  let v781 : BitVec 32 := Scalar.muli v5 c2_i32_602
  let v782 : BitVec 32 := Scalar.addi v780 v781
  let c1_i32_603 : BitVec 32 := 1#32
  let v783 : BitVec 32 := Scalar.muli v98 c1_i32_603
  let v784 : BitVec 32 := Scalar.addi v782 v783
  v784.toNat
def k0_dev44 (d0 : Dev nD) : Nat :=
  let c0_i32_623 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_622 : BitVec 32 := 4#32
  let v804 : BitVec 32 := Scalar.muli v81 c4_i32_622
  let v805 : BitVec 32 := Scalar.addi c0_i32_623 v804
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_624 : BitVec 32 := 2#32
  let v806 : BitVec 32 := Scalar.muli v5 c2_i32_624
  let v807 : BitVec 32 := Scalar.addi v805 v806
  let c1_i32_625 : BitVec 32 := 1#32
  let v808 : BitVec 32 := Scalar.muli v70 c1_i32_625
  let v809 : BitVec 32 := Scalar.addi v807 v808
  v809.toNat
def k0_dev45 (d0 : Dev nD) : Nat :=
  let c0_i32_635 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_634 : BitVec 32 := 4#32
  let v818 : BitVec 32 := Scalar.muli v109 c4_i32_634
  let v819 : BitVec 32 := Scalar.addi c0_i32_635 v818
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_636 : BitVec 32 := 2#32
  let v820 : BitVec 32 := Scalar.muli v5 c2_i32_636
  let v821 : BitVec 32 := Scalar.addi v819 v820
  let c1_i32_637 : BitVec 32 := 1#32
  let v822 : BitVec 32 := Scalar.muli v98 c1_i32_637
  let v823 : BitVec 32 := Scalar.addi v821 v822
  v823.toNat
def k0_dev46 (d0 : Dev nD) : Nat :=
  let c0_i32_657 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_656 : BitVec 32 := 4#32
  let v843 : BitVec 32 := Scalar.muli v81 c4_i32_656
  let v844 : BitVec 32 := Scalar.addi c0_i32_657 v843
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_658 : BitVec 32 := 2#32
  let v845 : BitVec 32 := Scalar.muli v5 c2_i32_658
  let v846 : BitVec 32 := Scalar.addi v844 v845
  let c1_i32_659 : BitVec 32 := 1#32
  let v847 : BitVec 32 := Scalar.muli v70 c1_i32_659
  let v848 : BitVec 32 := Scalar.addi v846 v847
  v848.toNat
def k0_dev47 (d0 : Dev nD) : Nat :=
  let c0_i32_669 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_668 : BitVec 32 := 4#32
  let v857 : BitVec 32 := Scalar.muli v109 c4_i32_668
  let v858 : BitVec 32 := Scalar.addi c0_i32_669 v857
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_670 : BitVec 32 := 2#32
  let v859 : BitVec 32 := Scalar.muli v5 c2_i32_670
  let v860 : BitVec 32 := Scalar.addi v858 v859
  let c1_i32_671 : BitVec 32 := 1#32
  let v861 : BitVec 32 := Scalar.muli v98 c1_i32_671
  let v862 : BitVec 32 := Scalar.addi v860 v861
  v862.toNat
def k0_dev48 (d0 : Dev nD) : Nat :=
  let c0_i32_691 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_690 : BitVec 32 := 4#32
  let v882 : BitVec 32 := Scalar.muli v81 c4_i32_690
  let v883 : BitVec 32 := Scalar.addi c0_i32_691 v882
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_692 : BitVec 32 := 2#32
  let v884 : BitVec 32 := Scalar.muli v5 c2_i32_692
  let v885 : BitVec 32 := Scalar.addi v883 v884
  let c1_i32_693 : BitVec 32 := 1#32
  let v886 : BitVec 32 := Scalar.muli v70 c1_i32_693
  let v887 : BitVec 32 := Scalar.addi v885 v886
  v887.toNat
def k0_dev49 (d0 : Dev nD) : Nat :=
  let c0_i32_703 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_702 : BitVec 32 := 4#32
  let v896 : BitVec 32 := Scalar.muli v109 c4_i32_702
  let v897 : BitVec 32 := Scalar.addi c0_i32_703 v896
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_704 : BitVec 32 := 2#32
  let v898 : BitVec 32 := Scalar.muli v5 c2_i32_704
  let v899 : BitVec 32 := Scalar.addi v897 v898
  let c1_i32_705 : BitVec 32 := 1#32
  let v900 : BitVec 32 := Scalar.muli v98 c1_i32_705
  let v901 : BitVec 32 := Scalar.addi v899 v900
  v901.toNat
def k0_dev50 (d0 : Dev nD) : Nat :=
  let c0_i32_725 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_724 : BitVec 32 := 4#32
  let v921 : BitVec 32 := Scalar.muli v81 c4_i32_724
  let v922 : BitVec 32 := Scalar.addi c0_i32_725 v921
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_726 : BitVec 32 := 2#32
  let v923 : BitVec 32 := Scalar.muli v5 c2_i32_726
  let v924 : BitVec 32 := Scalar.addi v922 v923
  let c1_i32_727 : BitVec 32 := 1#32
  let v925 : BitVec 32 := Scalar.muli v70 c1_i32_727
  let v926 : BitVec 32 := Scalar.addi v924 v925
  v926.toNat
def k0_dev51 (d0 : Dev nD) : Nat :=
  let c0_i32_737 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_736 : BitVec 32 := 4#32
  let v935 : BitVec 32 := Scalar.muli v109 c4_i32_736
  let v936 : BitVec 32 := Scalar.addi c0_i32_737 v935
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_738 : BitVec 32 := 2#32
  let v937 : BitVec 32 := Scalar.muli v5 c2_i32_738
  let v938 : BitVec 32 := Scalar.addi v936 v937
  let c1_i32_739 : BitVec 32 := 1#32
  let v939 : BitVec 32 := Scalar.muli v98 c1_i32_739
  let v940 : BitVec 32 := Scalar.addi v938 v939
  v940.toNat
def k0_dev52 (d0 : Dev nD) : Nat :=
  let c0_i32_759 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_758 : BitVec 32 := 4#32
  let v960 : BitVec 32 := Scalar.muli v81 c4_i32_758
  let v961 : BitVec 32 := Scalar.addi c0_i32_759 v960
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_760 : BitVec 32 := 2#32
  let v962 : BitVec 32 := Scalar.muli v5 c2_i32_760
  let v963 : BitVec 32 := Scalar.addi v961 v962
  let c1_i32_761 : BitVec 32 := 1#32
  let v964 : BitVec 32 := Scalar.muli v70 c1_i32_761
  let v965 : BitVec 32 := Scalar.addi v963 v964
  v965.toNat
def k0_dev53 (d0 : Dev nD) : Nat :=
  let c0_i32_771 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_770 : BitVec 32 := 4#32
  let v974 : BitVec 32 := Scalar.muli v109 c4_i32_770
  let v975 : BitVec 32 := Scalar.addi c0_i32_771 v974
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_772 : BitVec 32 := 2#32
  let v976 : BitVec 32 := Scalar.muli v5 c2_i32_772
  let v977 : BitVec 32 := Scalar.addi v975 v976
  let c1_i32_773 : BitVec 32 := 1#32
  let v978 : BitVec 32 := Scalar.muli v98 c1_i32_773
  let v979 : BitVec 32 := Scalar.addi v977 v978
  v979.toNat
def k0_dev54 (d0 : Dev nD) : Nat :=
  let c0_i32_793 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_792 : BitVec 32 := 4#32
  let v999 : BitVec 32 := Scalar.muli v81 c4_i32_792
  let v1000 : BitVec 32 := Scalar.addi c0_i32_793 v999
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_794 : BitVec 32 := 2#32
  let v1001 : BitVec 32 := Scalar.muli v5 c2_i32_794
  let v1002 : BitVec 32 := Scalar.addi v1000 v1001
  let c1_i32_795 : BitVec 32 := 1#32
  let v1003 : BitVec 32 := Scalar.muli v70 c1_i32_795
  let v1004 : BitVec 32 := Scalar.addi v1002 v1003
  v1004.toNat
def k0_dev55 (d0 : Dev nD) : Nat :=
  let c0_i32_805 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_804 : BitVec 32 := 4#32
  let v1013 : BitVec 32 := Scalar.muli v109 c4_i32_804
  let v1014 : BitVec 32 := Scalar.addi c0_i32_805 v1013
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_806 : BitVec 32 := 2#32
  let v1015 : BitVec 32 := Scalar.muli v5 c2_i32_806
  let v1016 : BitVec 32 := Scalar.addi v1014 v1015
  let c1_i32_807 : BitVec 32 := 1#32
  let v1017 : BitVec 32 := Scalar.muli v98 c1_i32_807
  let v1018 : BitVec 32 := Scalar.addi v1016 v1017
  v1018.toNat
def k0_dev56 (d0 : Dev nD) : Nat :=
  let c0_i32_827 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_826 : BitVec 32 := 4#32
  let v1038 : BitVec 32 := Scalar.muli v81 c4_i32_826
  let v1039 : BitVec 32 := Scalar.addi c0_i32_827 v1038
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_828 : BitVec 32 := 2#32
  let v1040 : BitVec 32 := Scalar.muli v5 c2_i32_828
  let v1041 : BitVec 32 := Scalar.addi v1039 v1040
  let c1_i32_829 : BitVec 32 := 1#32
  let v1042 : BitVec 32 := Scalar.muli v70 c1_i32_829
  let v1043 : BitVec 32 := Scalar.addi v1041 v1042
  v1043.toNat
def k0_dev57 (d0 : Dev nD) : Nat :=
  let c0_i32_839 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_838 : BitVec 32 := 4#32
  let v1052 : BitVec 32 := Scalar.muli v109 c4_i32_838
  let v1053 : BitVec 32 := Scalar.addi c0_i32_839 v1052
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_840 : BitVec 32 := 2#32
  let v1054 : BitVec 32 := Scalar.muli v5 c2_i32_840
  let v1055 : BitVec 32 := Scalar.addi v1053 v1054
  let c1_i32_841 : BitVec 32 := 1#32
  let v1056 : BitVec 32 := Scalar.muli v98 c1_i32_841
  let v1057 : BitVec 32 := Scalar.addi v1055 v1056
  v1057.toNat
def k0_dev58 (d0 : Dev nD) : Nat :=
  let c0_i32_861 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_860 : BitVec 32 := 4#32
  let v1077 : BitVec 32 := Scalar.muli v81 c4_i32_860
  let v1078 : BitVec 32 := Scalar.addi c0_i32_861 v1077
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_862 : BitVec 32 := 2#32
  let v1079 : BitVec 32 := Scalar.muli v5 c2_i32_862
  let v1080 : BitVec 32 := Scalar.addi v1078 v1079
  let c1_i32_863 : BitVec 32 := 1#32
  let v1081 : BitVec 32 := Scalar.muli v70 c1_i32_863
  let v1082 : BitVec 32 := Scalar.addi v1080 v1081
  v1082.toNat
def k0_dev59 (d0 : Dev nD) : Nat :=
  let c0_i32_883 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_882 : BitVec 32 := 4#32
  let v1102 : BitVec 32 := Scalar.muli v81 c4_i32_882
  let v1103 : BitVec 32 := Scalar.addi c0_i32_883 v1102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_884 : BitVec 32 := 2#32
  let v1104 : BitVec 32 := Scalar.muli v5 c2_i32_884
  let v1105 : BitVec 32 := Scalar.addi v1103 v1104
  let c1_i32_885 : BitVec 32 := 1#32
  let v1106 : BitVec 32 := Scalar.muli v70 c1_i32_885
  let v1107 : BitVec 32 := Scalar.addi v1105 v1106
  v1107.toNat
def k0_dev60 (d0 : Dev nD) : Nat :=
  let c0_i32_905 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_904 : BitVec 32 := 4#32
  let v1127 : BitVec 32 := Scalar.muli v81 c4_i32_904
  let v1128 : BitVec 32 := Scalar.addi c0_i32_905 v1127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_906 : BitVec 32 := 2#32
  let v1129 : BitVec 32 := Scalar.muli v5 c2_i32_906
  let v1130 : BitVec 32 := Scalar.addi v1128 v1129
  let c1_i32_907 : BitVec 32 := 1#32
  let v1131 : BitVec 32 := Scalar.muli v70 c1_i32_907
  let v1132 : BitVec 32 := Scalar.addi v1130 v1131
  v1132.toNat
def k0_dev61 (d0 : Dev nD) : Nat :=
  let c0_i32_927 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_926 : BitVec 32 := 4#32
  let v1152 : BitVec 32 := Scalar.muli v81 c4_i32_926
  let v1153 : BitVec 32 := Scalar.addi c0_i32_927 v1152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_928 : BitVec 32 := 2#32
  let v1154 : BitVec 32 := Scalar.muli v5 c2_i32_928
  let v1155 : BitVec 32 := Scalar.addi v1153 v1154
  let c1_i32_929 : BitVec 32 := 1#32
  let v1156 : BitVec 32 := Scalar.muli v70 c1_i32_929
  let v1157 : BitVec 32 := Scalar.addi v1155 v1156
  v1157.toNat
def k0_dev62 (d0 : Dev nD) : Nat :=
  let c0_i32_949 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c1_i32_5 : BitVec 32 := 1#32
  let v21 : BitVec 32 := Scalar.addi v20 c1_i32_5
  let c4_i32_6 : BitVec 32 := 4#32
  let c0_i32_7 : BitVec 32 := 0#32
  let v22 : BitVec 1 := Scalar.cmpi .eq c4_i32_6 c0_i32_7
  let c1_i32_8 : BitVec 32 := 1#32
  let v23 : BitVec 32 := Scalar.select v22 c1_i32_8 c4_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c0_i32_26 : BitVec 32 := 0#32
  let v55 : BitVec 1 := Scalar.cmpi .sgt v31 c0_i32_26
  let v56 : BitVec 32 := Scalar.extui v55
  let c0_i32_27 : BitVec 32 := 0#32
  let v57 : BitVec 1 := Scalar.cmpi .slt v31 c0_i32_27
  let v58 : BitVec 32 := Scalar.extui v57
  let v59 : BitVec 32 := Scalar.subi v56 v58
  let c2_i32_25 : BitVec 32 := 2#32
  let c0_i32_28 : BitVec 32 := 0#32
  let v60 : BitVec 1 := Scalar.cmpi .sgt c2_i32_25 c0_i32_28
  let v61 : BitVec 32 := Scalar.extui v60
  let c0_i32_29 : BitVec 32 := 0#32
  let v62 : BitVec 1 := Scalar.cmpi .slt c2_i32_25 c0_i32_29
  let v63 : BitVec 32 := Scalar.extui v62
  let v64 : BitVec 32 := Scalar.subi v61 v63
  let v65 : BitVec 1 := Scalar.cmpi .ne v59 v64
  let v66 : BitVec 32 := Scalar.remsi v31 c2_i32_25
  let c0_i32_30 : BitVec 32 := 0#32
  let v67 : BitVec 1 := Scalar.cmpi .ne v66 c0_i32_30
  let v68 : BitVec 1 := Scalar.andi v65 v67
  let v54 : BitVec 32 := Scalar.divsi v31 c2_i32_25
  let c1_i32_31 : BitVec 32 := 1#32
  let v69 : BitVec 32 := Scalar.subi v54 c1_i32_31
  let v70 : BitVec 32 := Scalar.select v68 v69 v54
  let c2_i32_32 : BitVec 32 := 2#32
  let c0_i32_33 : BitVec 32 := 0#32
  let v71 : BitVec 1 := Scalar.cmpi .eq c2_i32_32 c0_i32_33
  let c1_i32_34 : BitVec 32 := 1#32
  let v72 : BitVec 32 := Scalar.select v71 c1_i32_34 c2_i32_32
  let v73 : BitVec 32 := Scalar.remsi v31 v72
  let c0_i32_36 : BitVec 32 := 0#32
  let v75 : BitVec 1 := Scalar.cmpi .slt v73 c0_i32_36
  let c0_i32_37 : BitVec 32 := 0#32
  let v76 : BitVec 1 := Scalar.cmpi .slt v72 c0_i32_37
  let v77 : BitVec 1 := Scalar.xori v75 v76
  let c0_i32_35 : BitVec 32 := 0#32
  let v74 : BitVec 1 := Scalar.cmpi .ne v73 c0_i32_35
  let v78 : BitVec 1 := Scalar.andi v77 v74
  let v79 : BitVec 32 := Scalar.addi v73 v72
  let v80 : BitVec 32 := Scalar.select v78 v79 v73
  let v81 : BitVec 32 := Scalar.xori v70 v80
  let c4_i32_948 : BitVec 32 := 4#32
  let v1177 : BitVec 32 := Scalar.muli v81 c4_i32_948
  let v1178 : BitVec 32 := Scalar.addi c0_i32_949 v1177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_950 : BitVec 32 := 2#32
  let v1179 : BitVec 32 := Scalar.muli v5 c2_i32_950
  let v1180 : BitVec 32 := Scalar.addi v1178 v1179
  let c1_i32_951 : BitVec 32 := 1#32
  let v1181 : BitVec 32 := Scalar.muli v70 c1_i32_951
  let v1182 : BitVec 32 := Scalar.addi v1180 v1181
  v1182.toNat
def k0_dev63 (d0 : Dev nD) : Nat :=
  let c0_i32_971 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_970 : BitVec 32 := 4#32
  let v1202 : BitVec 32 := Scalar.muli v109 c4_i32_970
  let v1203 : BitVec 32 := Scalar.addi c0_i32_971 v1202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_972 : BitVec 32 := 2#32
  let v1204 : BitVec 32 := Scalar.muli v5 c2_i32_972
  let v1205 : BitVec 32 := Scalar.addi v1203 v1204
  let c1_i32_973 : BitVec 32 := 1#32
  let v1206 : BitVec 32 := Scalar.muli v98 c1_i32_973
  let v1207 : BitVec 32 := Scalar.addi v1205 v1206
  v1207.toNat
def k0_dev64 (d0 : Dev nD) : Nat :=
  let c0_i32_993 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_992 : BitVec 32 := 4#32
  let v1227 : BitVec 32 := Scalar.muli v109 c4_i32_992
  let v1228 : BitVec 32 := Scalar.addi c0_i32_993 v1227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_994 : BitVec 32 := 2#32
  let v1229 : BitVec 32 := Scalar.muli v5 c2_i32_994
  let v1230 : BitVec 32 := Scalar.addi v1228 v1229
  let c1_i32_995 : BitVec 32 := 1#32
  let v1231 : BitVec 32 := Scalar.muli v98 c1_i32_995
  let v1232 : BitVec 32 := Scalar.addi v1230 v1231
  v1232.toNat
def k0_dev65 (d0 : Dev nD) : Nat :=
  let c0_i32_1015 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_1014 : BitVec 32 := 4#32
  let v1252 : BitVec 32 := Scalar.muli v109 c4_i32_1014
  let v1253 : BitVec 32 := Scalar.addi c0_i32_1015 v1252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1016 : BitVec 32 := 2#32
  let v1254 : BitVec 32 := Scalar.muli v5 c2_i32_1016
  let v1255 : BitVec 32 := Scalar.addi v1253 v1254
  let c1_i32_1017 : BitVec 32 := 1#32
  let v1256 : BitVec 32 := Scalar.muli v98 c1_i32_1017
  let v1257 : BitVec 32 := Scalar.addi v1255 v1256
  v1257.toNat
def k0_dev66 (d0 : Dev nD) : Nat :=
  let c0_i32_1037 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_1036 : BitVec 32 := 4#32
  let v1277 : BitVec 32 := Scalar.muli v109 c4_i32_1036
  let v1278 : BitVec 32 := Scalar.addi c0_i32_1037 v1277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1038 : BitVec 32 := 2#32
  let v1279 : BitVec 32 := Scalar.muli v5 c2_i32_1038
  let v1280 : BitVec 32 := Scalar.addi v1278 v1279
  let c1_i32_1039 : BitVec 32 := 1#32
  let v1281 : BitVec 32 := Scalar.muli v98 c1_i32_1039
  let v1282 : BitVec 32 := Scalar.addi v1280 v1281
  v1282.toNat
def k0_dev67 (d0 : Dev nD) : Nat :=
  let c0_i32_1059 : BitVec 32 := 0#32
  let c2_i32_4 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.muli c2_i32_4 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.xori v2 v8
  let v20 : BitVec 32 := Scalar.addi v18 v19
  let c3_i32 : BitVec 32 := 3#32
  let v32 : BitVec 32 := Scalar.addi v20 c3_i32
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_39 : BitVec 32 := 0#32
  let v83 : BitVec 1 := Scalar.cmpi .sgt v42 c0_i32_39
  let v84 : BitVec 32 := Scalar.extui v83
  let c0_i32_40 : BitVec 32 := 0#32
  let v85 : BitVec 1 := Scalar.cmpi .slt v42 c0_i32_40
  let v86 : BitVec 32 := Scalar.extui v85
  let v87 : BitVec 32 := Scalar.subi v84 v86
  let c2_i32_38 : BitVec 32 := 2#32
  let c0_i32_41 : BitVec 32 := 0#32
  let v88 : BitVec 1 := Scalar.cmpi .sgt c2_i32_38 c0_i32_41
  let v89 : BitVec 32 := Scalar.extui v88
  let c0_i32_42 : BitVec 32 := 0#32
  let v90 : BitVec 1 := Scalar.cmpi .slt c2_i32_38 c0_i32_42
  let v91 : BitVec 32 := Scalar.extui v90
  let v92 : BitVec 32 := Scalar.subi v89 v91
  let v93 : BitVec 1 := Scalar.cmpi .ne v87 v92
  let v94 : BitVec 32 := Scalar.remsi v42 c2_i32_38
  let c0_i32_43 : BitVec 32 := 0#32
  let v95 : BitVec 1 := Scalar.cmpi .ne v94 c0_i32_43
  let v96 : BitVec 1 := Scalar.andi v93 v95
  let v82 : BitVec 32 := Scalar.divsi v42 c2_i32_38
  let c1_i32_44 : BitVec 32 := 1#32
  let v97 : BitVec 32 := Scalar.subi v82 c1_i32_44
  let v98 : BitVec 32 := Scalar.select v96 v97 v82
  let c2_i32_45 : BitVec 32 := 2#32
  let c0_i32_46 : BitVec 32 := 0#32
  let v99 : BitVec 1 := Scalar.cmpi .eq c2_i32_45 c0_i32_46
  let c1_i32_47 : BitVec 32 := 1#32
  let v100 : BitVec 32 := Scalar.select v99 c1_i32_47 c2_i32_45
  let v101 : BitVec 32 := Scalar.remsi v42 v100
  let c0_i32_49 : BitVec 32 := 0#32
  let v103 : BitVec 1 := Scalar.cmpi .slt v101 c0_i32_49
  let c0_i32_50 : BitVec 32 := 0#32
  let v104 : BitVec 1 := Scalar.cmpi .slt v100 c0_i32_50
  let v105 : BitVec 1 := Scalar.xori v103 v104
  let c0_i32_48 : BitVec 32 := 0#32
  let v102 : BitVec 1 := Scalar.cmpi .ne v101 c0_i32_48
  let v106 : BitVec 1 := Scalar.andi v105 v102
  let v107 : BitVec 32 := Scalar.addi v101 v100
  let v108 : BitVec 32 := Scalar.select v106 v107 v101
  let v109 : BitVec 32 := Scalar.xori v98 v108
  let c4_i32_1058 : BitVec 32 := 4#32
  let v1302 : BitVec 32 := Scalar.muli v109 c4_i32_1058
  let v1303 : BitVec 32 := Scalar.addi c0_i32_1059 v1302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1060 : BitVec 32 := 2#32
  let v1304 : BitVec 32 := Scalar.muli v5 c2_i32_1060
  let v1305 : BitVec 32 := Scalar.addi v1303 v1304
  let c1_i32_1061 : BitVec 32 := 1#32
  let v1306 : BitVec 32 := Scalar.muli v98 c1_i32_1061
  let v1307 : BitVec 32 := Scalar.addi v1305 v1306
  v1307.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Words.lean ====
/-
  What the two preconditions say of the two words: `exchanged`, that they are `1, 0`; `identity`, that they are `0, 1`.
-/
module

public import proofs.«01_k».proof.Proof.Gen.Pre_exchanged_Kernel
public import proofs.«01_k».proof.Proof.Gen.Pre_identity_Kernel
public import proofs.«01_k».proof.Pre_exchanged_Kernel
public import proofs.«01_k».proof.Pre_identity_Kernel

@[expose] public section

noncomputable section

namespace Cert.WordsProof

open Idealize.ShloMosaic

abbrev S_ : Shape := ⟨0, ![]⟩
abbrev S1 : Shape := ⟨1, ![1]⟩
abbrev S2 : Shape := ⟨1, ![2]⟩
abbrev SX : Shape := ⟨3, ![1, 2048, 1024]⟩

/-- A vector of one word has one index. -/
theorem one_index (a b : S1.Idx) : a = b := by
  funext t; obtain rfl : t = 0 := Subsingleton.elim _ _
  exact Subsingleton.elim (α := Fin 1) _ _

/-- Position `n` of the two. -/
def place (n : Fin 2) : S2.Idx := fun a => match a with | ⟨0, _⟩ => n

/-- The scalar cut out at position `n` is the word there. -/
theorem cut_eq (p : IVec S2 32) (n : Fin 2) (hs : S2.Slices ![n.val] S1) (hc : S1.ShapeCasts S_) (j : S_.Idx) :
    shapeCast S_ (extractStridedSlice S1 ![n.val] p hs) hc j = p (place n) := by
  unfold shapeCast
  rw [one_index (Shape.reshapeEquiv hc j) (fun a => match a with | ⟨0, _⟩ => (0 : Fin 1))]
  unfold extractStridedSlice
  congr 1; funext t; obtain rfl : t = 0 := Subsingleton.elim _ _
  exact Fin.ext rfl

/-- Both comparisons hold where their conjunction is one. -/
theorem both (a b u v : BitVec 32) (h : IntOp.andi (IntOp.cmpi .eq a u) (IntOp.cmpi .eq b v) = 1#1) : a = u ∧ b = v := by
  have e : ∀ s t : Bool, BitVec.ofBool s &&& BitVec.ofBool t = 1#1 → s = true ∧ t = true := by decide
  have h := e _ _ h
  exact ⟨eq_of_beq h.1, eq_of_beq h.2⟩

/-- A word's index is its position. -/
theorem at_index (p : IVec S2 32) (i : S2.Idx) : p i = p (place (i 0)) := by
  congr 1; funext t; obtain rfl : t = 0 := Subsingleton.elim _ _
  rfl

variable {F : FTy → Type} [FloatOps F]

/-- `exchanged` holds of the words `1, 0` only; -/
theorem exchanged_words (x : FVec F SX .f32) (p : IVec S2 32) (h : Cert.Pre_exchanged_Kernel.fn x p = fun _ => 1#1) (i : S2.Idx) :
    p i = BitVec.ofNat 32 (1 - (i 0).val) := by
  have h := both _ _ _ _ (congrFun h (fun a => a.elim0))
  have h0 := (cut_eq p 0 _ _ _).symm.trans h.1
  have h1 := (cut_eq p 1 _ _ _).symm.trans h.2
  rw [at_index p i]
  generalize (i 0) = n
  match n with
  | ⟨0, _⟩ => exact h0
  | ⟨1, _⟩ => exact h1

/-- `identity` of the words `0, 1` only. -/
theorem identity_words (x : FVec F SX .f32) (p : IVec S2 32) (h : Cert.Pre_identity_Kernel.fn x p = fun _ => 1#1) (i : S2.Idx) :
    p i = BitVec.ofNat 32 (i 0).val := by
  have h := both _ _ _ _ (congrFun h (fun a => a.elim0))
  have h0 := (cut_eq p 0 _ _ _).symm.trans h.1
  have h1 := (cut_eq p 1 _ _ _).symm.trans h.2
  rw [at_index p i]
  generalize (i 0) = n
  match n with
  | ⟨0, _⟩ => exact h0
  | ⟨1, _⟩ => exact h1

end Cert.WordsProof

end
-- ==== Proof.Bits.Claims.lean ====
module

public import proofs.«01_k».proof.Proof.Bits.Run
public import proofs.«01_k».proof.Proof.Words

@[expose] public section

noncomputable section

namespace Cert.KernelProof

open Cert.Kernel Cert.Kernel.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Under `exchanged`, every device ends with the blocks of the devices across y, tile by tile. -/
theorem ends_exchanged (h : ∀ c : Dev nD, Cert.Pre_exchanged_Kernel.fn (F := F) (m ((c.tc : Thread nD τ).loc main_arg0)) (m ((c.tc : Thread nD τ).loc main_arg1)) = fun _ => 1#1) :
    θ_run defs (onTc (τ := τ) (main (F := F))) ⟨m, fun _ => 0, ρ⟩ (Ends m (fin fun c => m ((c.tc : Thread nD τ).loc main_arg0))) := by
  have h' := run_exchange m ρ fun c i hi => by
    rw [pstg_eq, Cert.WordsProof.exchanged_words _ _ (h c) i, hi]
  rw [show xstg m ρ = fun c : Dev nD => m ((c.tc : Thread nD τ).loc main_arg0) from funext (xstg_eq m ρ)] at h'
  exact h'

/-- Under `identity`, every device ends with its own block. -/
theorem ends_same (h : ∀ c : Dev nD, Cert.Pre_identity_Kernel.fn (F := F) (m ((c.tc : Thread nD τ).loc main_arg0)) (m ((c.tc : Thread nD τ).loc main_arg1)) = fun _ => 1#1) :
    θ_run defs (onTc (τ := τ) (main (F := F))) ⟨m, fun _ => 0, ρ⟩ (Ends m fun c => m ((c.tc : Thread nD τ).loc main_arg0)) := by
  have h' := run_same m ρ fun c i hi => by
    rw [pstg_eq, Cert.WordsProof.identity_words _ _ (h c) i, hi]
  rw [show xstg m ρ = fun c : Dev nD => m ((c.tc : Thread nD τ).loc main_arg0) from funext (xstg_eq m ρ)] at h'
  exact h'

end Cert.KernelProof

end
-- ==== Proof.Geo.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealProof

open Cert.KernelIdeal Cert.KernelIdeal.Gen
open Idealize.ShloMosaic
open Idealize.ShloMosaic.TcCoe

/-! ## The mesh: two rows of four devices, each row a ring -/

/-- The row of a device: its coordinate on the exchanged axis. -/
abbrev yOf (c : Dev nD) : ℕ := c.val / 2 % 2
/-- The place of a device on its row's ring. -/
abbrev pos (c : Dev nD) : ℕ := 2 * (c.val % 2) + (c.val / 4 + c.val % 2) % 2
/-- The device at place `p` of row `y`. -/
abbrev devAt (y p : ℕ) : Dev nD :=
  ⟨4 * ((p % 4 + p % 4 / 2) % 2) + 2 * (y % 2) + p % 4 / 2, by
    have h1 := Nat.mod_lt (p % 4 + p % 4 / 2) (y := 2) (by decide)
    have h2 := Nat.mod_lt y (y := 2) (by decide)
    have h3 : p % 4 / 2 < 2 := by have := Nat.mod_lt p (y := 4) (by decide); omega
    show _ < 8
    omega⟩
/-- The partner in the other row. -/
abbrev dvy (c : Dev nD) : Dev nD := devAt (yOf c + 1) (pos c)
/-- The next device on the ring; -/
abbrev nxt (c : Dev nD) : Dev nD := devAt (yOf c) (pos c + 1)
/-- the previous one. -/
abbrev prv (c : Dev nD) : Dev nD := devAt (yOf c) (pos c + 3)

/-! ## The transfers: 22 across the rows, 21 forward on the ring, 21 backward -/

/-- A transfer every device issues. -/
abbrev T : Type := Fin 64
/-- Its way: 0 across, 1 to the next device, 2 to the previous one. -/
abbrev cls (t : T) : Fin 3 := if t.val < 22 then 0 else if t.val < 43 then 1 else 2
/-- Its number among those of its way. -/
abbrev ix (t : T) : ℕ := if t.val < 22 then t.val else if t.val < 43 then t.val - 22 else t.val - 43
/-- The quarter it moves, counted from the sender's place. -/
abbrev rel (t : T) : ℕ := if ix t < 16 then 0 else if cls t = 0 then 2 else if cls t = 1 then 3 else 1
/-- The chunk of that quarter. -/
abbrev chk (t : T) : ℕ := if ix t < 16 then ix t else if cls t = 0 then ix t - 16 else if cls t = 1 then ix t - 10 else ix t - 5
/-- Where device `c` sends it; -/
abbrev tgt (c : Dev nD) (t : T) : Dev nD := if cls t = 0 then dvy c else if cls t = 1 then nxt c else prv c
/-- from where device `c` receives it. -/
abbrev sdr (c : Dev nD) (t : T) : Dev nD := if cls t = 0 then dvy c else if cls t = 1 then prv c else nxt c
/-- The tile (of 64 along the rows) device `c` sends by it; -/
abbrev blk (c : Dev nD) (t : T) : T :=
  ⟨16 * ((pos c + rel t) % 4) + chk t % 16, by
    have h1 := Nat.mod_lt (pos c + rel t) (y := 4) (by decide)
    have h2 := Nat.mod_lt (chk t) (y := 16) (by decide)
    omega⟩
/-- the tile that lands on device `c` by it. -/
abbrev lnd (c : Dev nD) (t : T) : T := blk (sdr c t) t
/-- The transfer whose landing it forwards, if it forwards one. -/
abbrev par (t : T) : Option T :=
  if cls t = 0 then none
  else if ix t < 16 then some ⟨ix t % 64, Nat.mod_lt _ (by decide)⟩
  else some ⟨(if cls t = 1 then 22 + chk t else 43 + chk t) % 64, Nat.mod_lt _ (by decide)⟩
/-- The forward transfer that forwards `t`'s landing; -/
abbrev lu (t : T) : Option T :=
  if t.val < 16 then some ⟨(22 + t.val) % 64, Nat.mod_lt _ (by decide)⟩
  else if 28 ≤ t.val ∧ t.val ≤ 32 then some ⟨(t.val + 10) % 64, Nat.mod_lt _ (by decide)⟩ else none
/-- the backward one. -/
abbrev ru (t : T) : Option T :=
  if t.val < 16 then some ⟨(43 + t.val) % 64, Nat.mod_lt _ (by decide)⟩
  else if 54 ≤ t.val ∧ t.val ≤ 58 then some ⟨(t.val + 5) % 64, Nat.mod_lt _ (by decide)⟩ else none
/-- The device whose block the tile `k` of device `e`'s result comes from. -/
abbrev org (e : Dev nD) (k : T) : Dev nD :=
  if (k.val / 16 + 4 - pos e) % 4 = 0 then dvy e
  else if (k.val / 16 + 4 - pos e) % 4 = 3 then dvy (prv e)
  else if (k.val / 16 + 4 - pos e) % 4 = 1 then dvy (nxt e)
  else if k.val % 16 < 6 then dvy e else dvy (nxt (nxt e))

set_option maxRecDepth 100000
/-- The device from which `c` receives a transfer sends it to `c`. -/
theorem tgt_sdr : ∀ (c : Dev nD) (t : T), tgt (sdr c t) t = c := by decide +kernel
/-- The device to which `c` sends a transfer receives it from `c`. -/
theorem sdr_tgt : ∀ (c : Dev nD) (t : T), sdr (tgt c t) t = c := by decide +kernel
/-- The tile that lands at the target is the one that was sent. -/
theorem lnd_tgt (c : Dev nD) (t : T) : lnd (tgt c t) t = blk c t := by unfold lnd; rw [sdr_tgt]
/-- What lands on a device covers its tiles once. -/
theorem lnd_injective (c : Dev nD) : Function.Injective (lnd c) := by revert c; unfold Function.Injective; decide +kernel
/-- The transfers that land on a device correspond to its 64 tiles. -/
theorem lnd_bijective (c : Dev nD) : Function.Bijective (lnd c) := Finite.injective_iff_bijective.mp (lnd_injective c)
/-- A tile sent across comes from the sender's own block. -/
theorem org_x : ∀ (c : Dev nD) (t : T), cls t = 0 → org (tgt c t) (blk c t) = c := by decide +kernel
/-- A tile sent on the ring has at its target the origin that it has at the sender. -/
theorem org_fwd : ∀ (c : Dev nD) (t : T), cls t ≠ 0 → org (tgt c t) (blk c t) = org c (blk c t) := by decide +kernel
/-- Every tile of a device's result comes from the other row. -/
theorem org_y : ∀ (e : Dev nD) (k : T), yOf (org e k) = (yOf e + 1) % 2 := by decide +kernel
/-- A transfer across sends the tile that it also receives. -/
theorem blk_across : ∀ (c : Dev nD) (t : T), cls t = 0 → blk c t = lnd c t := by decide +kernel
/-- A forwarding transfer sends the tile of the landing that it forwards. -/
theorem blk_par : ∀ (c : Dev nD) (t p : T), par t = some p → blk c t = lnd c p := by decide +kernel
/-- The transfers across are those that forward nothing. -/
theorem par_none : ∀ t : T, cls t = 0 ↔ par t = none := by decide +kernel
/-- A transfer to the next device that forwards `p` is the forward one of `p`. -/
theorem lu_of_par : ∀ t p : T, cls t = 1 → par t = some p → lu p = some t := by decide +kernel
/-- A transfer to the previous device that forwards `p` is the backward one of `p`. -/
theorem ru_of_par : ∀ t p : T, cls t = 2 → par t = some p → ru p = some t := by decide +kernel
/-- The forward one of `p` goes to the next device and forwards `p`. -/
theorem par_of_lu : ∀ t p : T, lu p = some t → cls t = 1 ∧ par t = some p := by decide +kernel
/-- The backward one of `p` goes to the previous device and forwards `p`. -/
theorem par_of_ru : ∀ t p : T, ru p = some t → cls t = 2 ∧ par t = some p := by decide +kernel

/-! ## The order of the operations -/

/-- Issue a transfer, wait for its landing here, wait for its source to be read. -/
inductive Op where
  | send (t : T)
  | wr (t : T)
  | ws (t : T)
deriving DecidableEq

abbrev ofNat64 (n : ℕ) : T := ⟨n % 64, Nat.mod_lt _ (by decide)⟩
/-- The order the kernel issues its transfers in. -/
abbrev order : List T :=
  (List.range 22).map ofNat64 ++ (List.range 16).flatMap (fun i => [ofNat64 (22 + i), ofNat64 (43 + i)])
    ++ (List.range 5).map (fun i => ofNat64 (38 + i)) ++ (List.range 5).map (fun i => ofNat64 (59 + i))
/-- The kernel's operations after the handshake. -/
def ops : List Op :=
  (List.range 22).map (fun i => .send (ofNat64 i))
    ++ (List.range 16).flatMap (fun i => [.wr (ofNat64 i), .send (ofNat64 (22 + i)), .send (ofNat64 (43 + i))])
    ++ (List.range 5).flatMap (fun i => [.wr (ofNat64 (28 + i)), .send (ofNat64 (38 + i))])
    ++ (List.range 5).flatMap (fun i => [.wr (ofNat64 (54 + i)), .send (ofNat64 (59 + i))])
    ++ ((List.range 6).map (16 + ·) ++ (List.range 6).map (22 + ·) ++ (List.range 10).map (33 + ·)
        ++ (List.range 11).map (43 + ·) ++ (List.range 5).map (59 + ·)).map (fun i => .wr (ofNat64 i))
    ++ order.map .ws

/-- A landing's level: across 2, on the ring 3, the second hop 4. -/
abbrev lvlR (t : T) : ℕ := if cls t = 0 then 2 else if ix t < 16 then 3 else 4

/-- What an operation needs of what follows it. -/
abbrev okStep (o : Op) (R : List Op) : Prop :=
  match o with
  | .send t => Op.send t ∉ R ∧ Op.ws t ∈ R ∧ (∀ p, par t = some p → Op.wr p ∉ R)
  | .wr t => Op.wr t ∉ R ∧ (∀ u, lu t = some u → Op.send u ∈ R ∧ Op.ws u ∈ R) ∧ (∀ u, ru t = some u → Op.send u ∈ R ∧ Op.ws u ∈ R)
      ∧ (∀ u, Op.send u ∈ R → lvlR t < lvlR u)
  | .ws t => Op.ws t ∉ R ∧ (∀ u, Op.send u ∉ R) ∧ (∀ p, par t = some p → Op.wr p ∉ R)

instance (o : Op) (R : List Op) : Decidable (okStep o R) := by cases o <;> infer_instance

abbrev rest (n : ℕ) : List Op := ops.drop n

/-- There are 192 operations: three for each of the 64 transfers. -/
theorem ops_length : ops.length = 192 := by decide +kernel
/-- Every transfer is issued, and waited for on both sides. -/
theorem ops_all : ∀ t : T, Op.send t ∈ ops ∧ Op.wr t ∈ ops ∧ Op.ws t ∈ ops := by decide +kernel
/-- Every operation meets it. -/
theorem ops_ok : ∀ n : Fin 192, ∀ o, ops[n.val]? = some o → okStep o (rest (n.val + 1)) := by
  have h : ∀ n : Fin 192, (match ops[n.val]? with | some o => decide (okStep o (rest (n.val + 1))) | none => true) = true := by decide +kernel
  intro n o ho
  have := h n
  rw [ho] at this
  exact of_decide_eq_true this

/-- What follows the first `n` operations starts with operation `n`. -/
theorem rest_cons {n : ℕ} {o : Op} (h : ops[n]? = some o) : rest n = o :: rest (n + 1) := by
  obtain ⟨hn, rfl⟩ := List.getElem?_eq_some_iff.mp h
  exact List.drop_eq_getElem_cons hn
/-- Operation `n` has what it needs of those after it. -/
theorem rest_ok {n : ℕ} {o : Op} (h : ops[n]? = some o) : okStep o (rest (n + 1)) :=
  ops_ok ⟨n, by obtain ⟨hn, -⟩ := List.getElem?_eq_some_iff.mp h; rw [← ops_length]; exact hn⟩ o h

/-! ## The semaphores -/

/-- A cell of a device's protocol: the barrier, the source side of a transfer, its landing side. -/
abbrev CK : Type := Option (Bool × T)
abbrev sndN (t : T) : ℕ := if cls t = 0 then 3 + ix t else if cls t = 1 then 47 + ix t else 89 + ix t
abbrev rcvN (t : T) : ℕ := if cls t = 0 then 25 + ix t else if cls t = 1 then 68 + ix t else 110 + ix t
/-- The source side's semaphore of a transfer exists. -/
theorem sndN_lt : ∀ t : T, sndN t < sig.nDmaSem := by decide +kernel
/-- The landing side's semaphore of a transfer exists. -/
theorem rcvN_lt : ∀ t : T, rcvN t < sig.nDmaSem := by decide +kernel
abbrev sndS (t : T) : DmaSem sig := ⟨sndN t, sndN_lt t⟩
abbrev rcvS (t : T) : DmaSem sig := ⟨rcvN t, rcvN_lt t⟩
abbrev barS : Sem sig := (SemArray.scalar (sig.barrier 0 rfl) : Sems sig S_).sem
abbrev csem : CK → SemLoc sig
  | none => .reg barS
  | some (false, t) => .dma (sndS t)
  | some (true, t) => .dma (rcvS t)
/-- The transfer and side a DMA semaphore belongs to. -/
abbrev kindN (n : ℕ) : Option CK :=
  if n < 3 then none else if n < 25 then some (some (false, ofNat64 (n - 3))) else if n < 47 then some (some (true, ofNat64 (n - 25)))
  else if n < 68 then some (some (false, ofNat64 (n - 25))) else if n < 89 then some (some (true, ofNat64 (n - 46)))
  else if n < 110 then some (some (false, ofNat64 (n - 46))) else if n < 131 then some (some (true, ofNat64 (n - 67))) else none
/-- What a semaphore is to the protocol. -/
def kind : SemLoc sig → Option CK
  | .reg s => if s = barS then some none else none
  | .dma s => kindN s.val
/-- A cell's semaphore is recognised as that cell. -/
theorem kind_csem : ∀ k : CK, kind (csem k) = some k := by decide +kernel
/-- The three semaphores of the staging copies belong to no cell. -/
theorem kind_stage : ∀ s : DmaSem sig, s.val < 3 → kind (.dma s) = none := fun s h => if_pos h
/-- The kernel's own scoped semaphores: the DMA arrays and one spare. -/
abbrev osem : CK → SemLoc sig
  | none => .dma ⟨131, by decide⟩
  | some (false, t) => .dma (sndS t)
  | some (true, t) => .dma (rcvS t)
/-- The kernel's own scoped semaphores are distinct, and they are all those that staging does not use. -/
theorem ownSemFacts : Pipeline.OwnSemFacts cfg0.spec osem := by decide +kernel

end Cert.KernelIdealProof

end
-- ==== Proof.Proto.lean ====
module

public import proofs.«01_k».proof.Proof.Geo

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The two staging buffers and their 64 tiles -/

abbrev xM : Memref sig .tc .vmem S1x2048x1024 .f32 := Memref.whole cc0_stg0_0
abbrev pM : Memref sig .tc .smem S2 .i32 := Memref.whole cc0_stg1_0
abbrev oM : Memref sig .tc .vmem S1x2048x1024 .f32 := Memref.whole cc0_stg2_0
/-- What a device's operand, result staging buffer holds. -/
abbrev XC (F : FTy → Type) [FloatOps F] : Type := (cc0_stg0_0 : Ref sig .tc).ty.Contents (Elt F)
abbrev OC (F : FTy → Type) [FloatOps F] : Type := (cc0_stg2_0 : Ref sig .tc).ty.Contents (Elt F)

/-- Where a tile starts. -/
abbrev toff (k : T) : Fin 3 → ℕ := ![0, 32 * k.val, 0]
/-- A tile lies inside the buffer. -/
theorem toff_inb : ∀ (k : T) (a : Fin 3), toff k a + S1x32x1024.size a ≤ S1x2048x1024.size a := by decide +kernel
abbrev tile (k : T) : Rect S1x2048x1024 := Rect.unit (toff k) S1x32x1024.size (toff_inb k)
abbrev xT (k : T) : Memref sig .tc .vmem S1x32x1024 .f32 := xM.slice (tile k) (fun _ => rfl)
abbrev oT (k : T) : Memref sig .tc .vmem S1x32x1024 .f32 := oM.slice (tile k) (fun _ => rfl)

abbrev N : ℕ := (oT 0).view.dmaCredit
/-- A landing is worth at least one unit. -/
theorem N_pos : 0 < N := View.dmaCredit_pos _ (by decide)

/-- A tile of the operand's buffer covers the tile's elements. -/
theorem xT_set (k : T) : (xT k).view.set = (tile k).set := View.set_slice_whole _ _
/-- A tile of the result's buffer covers the tile's elements. -/
theorem oT_set (k : T) : (oT k).view.set = (tile k).set := View.set_slice_whole _ _
/-- Different tiles share no element. -/
theorem tiles_disjoint (k k' : T) (h : k ≠ k') : Disjoint (tile k).set (tile k').set :=
  Ring.lead_disjoint (s := S1x2048x1024) (1 : Fin 3) 32 toff S1x32x1024.size toff_inb (fun _ => rfl) rfl k k' h
/-- The tiles cover the buffer. -/
theorem tiles_cover : Finset.univ.biUnion (fun k => (tile k).set) = Finset.univ :=
  Ring.lead_cover (s := S1x2048x1024) (1 : Fin 3) 32 toff S1x32x1024.size toff_inb (fun _ => rfl)
    (fun b a ha => by fin_cases a <;> first | rfl | exact absurd rfl ha) rfl
    (fun a ha => by fin_cases a <;> first | rfl | exact absurd rfl ha) rfl
/-- The tile an element lies in. -/
def tileOf (i : S1x2048x1024.Idx) : T := ⟨(i 1).val / 32, by
  have h : (i 1).val < 2048 := (i 1).isLt
  omega⟩
/-- An element of a tile has that tile. -/
theorem tileOf_mem {k : T} {i : S1x2048x1024.Idx} (h : i ∈ (tile k).set) : tileOf i = k := by
  have h1 := (Rect.mem_set_unit.mp h) (1 : Fin 3)
  have h2 : 32 * k.val ≤ (i 1).val ∧ (i 1).val < 32 * k.val + 32 := h1
  exact Fin.ext (by show (i 1).val / 32 = k.val; omega)

/-! ## The contents -/

variable (X : Dev nD → XC F)

/-- What device `e`'s result buffer holds in the end. -/
def fin (e : Dev nD) : OC F := fun i => X (org e (tileOf i)) i

/-- A tile of the operand's buffer of device `c`. -/
def xPt (q : PosShare TreeShare) (c : Dev nD) (k : T) (f : XC F) : sProp 𝕄 :=
  (xT k).view.loc (c : Thread nD τ) ↦[(xT k).view.set]{q} f
/-- A tile of the result's buffer of device `c`. -/
def oPt (q : PosShare TreeShare) (c : Dev nD) (k : T) (f : OC F) : sProp 𝕄 :=
  (oT k).view.loc (c : Thread nD τ) ↦[(oT k).view.set]{q} f

instance xPt_storable (q c k) (f : XC F) : BI.Storable (upEmb : UEmb _ 𝕄) (xPt q c k f) := by unfold xPt; infer_instance
instance oPt_storable (q c k) (f : OC F) : BI.Storable (upEmb : UEmb _ 𝕄) (oPt q c k f) := by unfold oPt; infer_instance

/-- Only a result tile's contents inside the tile matter. -/
theorem oPt_congr {q : PosShare TreeShare} {c : Dev nD} {k : T} {f g : OC F} (h : ∀ i ∈ (tile k).set, f i = g i) : oPt q c k f = oPt q c k g := by
  unfold oPt; exact pointsTo_congr (by rw [oT_set]; exact h)

/-- The operand's tiles make up the buffer; -/
theorem x_tiles (c : Dev nD) (f : XC F) : (((c : Thread nD τ).loc cc0_stg0_0) ↦{fullShare} f : sProp 𝕄) = bigSep Finset.univ fun k => xPt fullShare c k f := by
  refine (Ring.pointsTo_blocks (ℓ := (c : Thread nD τ).loc cc0_stg0_0) (fun k => (tile k).set) tiles_disjoint tiles_cover f).trans (bigSep_congr fun k _ => ?_)
  unfold xPt; rw [xT_set]
/-- the result's likewise. -/
theorem o_tiles (c : Dev nD) (f : OC F) : (((c : Thread nD τ).loc cc0_stg2_0) ↦{fullShare} f : sProp 𝕄) = bigSep Finset.univ fun k => oPt fullShare c k f := by
  refine (Ring.pointsTo_blocks (ℓ := (c : Thread nD τ).loc cc0_stg2_0) (fun k => (tile k).set) tiles_disjoint tiles_cover f).trans (bigSep_congr fun k _ => ?_)
  unfold oPt; rw [oT_set]
/-- A result tile is its two halves. -/
theorem o_halves (c : Dev nD) (k : T) (f : OC F) : oPt fullShare c k f ⊣⊢ iprop(oPt fullShare.left c k f ∗ oPt fullShare.right c k f) := by
  unfold oPt; exact pointsTo_share (PosShare.mem_left_op_right fullShare)

/-- A result tile copied from a buffer agreeing with the end there holds the end. -/
theorem landed_eq (q) (e : Dev nD) (k : T) (fd : OC F) (w : S1x32x1024.Idx → Elt F .f32)
    (h : ∀ x, w x = fin X e ((tile k).emb x)) :
    oPt q e k ((oT k).view.write (Elt F) fd w Finset.univ) = oPt q e k (fin X e) := by
  refine oPt_congr fun i hi => ?_
  rw [← oT_set] at hi
  obtain ⟨x, -, rfl⟩ := Finset.mem_map.mp hi
  rw [View.write_emb_of_mem _ _ (Finset.mem_univ x), h]; rfl

/-! ## The protocol -/

abbrev kcell (ck : Dev nD × CK) : GSem nD τ sig := ((ck.1 : Thread nD τ), csem ck.2)
abbrev barC (c : Dev nD) : GSem nD τ sig := kcell (c, none)
abbrev sndC (c : Dev nD) (t : T) : GSem nD τ sig := kcell (c, some (false, t))
abbrev rcvC (c : Dev nD) (t : T) : GSem nD τ sig := kcell (c, some (true, t))

/-- The share a transfer reads its source at. -/
abbrev shr (j : Fin 3) : PosShare TreeShare := if j = 1 then fullShare.left else fullShare.right

/-- What the barrier's duty of way `j` hands over: the tiles device `c` will send to by that way. -/
def barP (c : Dev nD) (j : Fin 3) : sProp 𝕄 := bigSep Finset.univ fun t : T => if cls t = j then iprop(∃ f : OC F, oPt fullShare (tgt c t) (blk c t) f) else iprop(emp)
/-- A transfer's source. -/
def srcP (c : Dev nD) (t : T) : sProp 𝕄 := if cls t = 0 then xPt fullShare c (blk c t) (X c) else oPt (shr (cls t)) c (blk c t) (fin X c)
/-- Its landing on device `c`. -/
def rcvP (c : Dev nD) (t : T) : sProp 𝕄 := oPt fullShare c (lnd c t) (fin X c)

instance barP_storable (c : Dev nD) (j) : BI.Storable (upEmb : UEmb _ 𝕄) (barP (F := F) c j) := by
  unfold barP
  have : ∀ t : T, BI.Storable (upEmb : UEmb _ 𝕄) (if cls t = j then iprop(∃ f : OC F, oPt fullShare (tgt c t) (blk c t) f) else iprop(emp) : sProp 𝕄) := fun t => by
    split <;> infer_instance
  infer_instance
instance srcP_storable (c : Dev nD) (t) : BI.Storable (upEmb : UEmb _ 𝕄) (srcP X c t) := by unfold srcP; split <;> infer_instance
instance rcvP_storable (c : Dev nD) (t) : BI.Storable (upEmb : UEmb _ 𝕄) (rcvP X c t) := by unfold rcvP; infer_instance

/-- The duties of a cell's one round, by what the cell is; -/
def dut : Option CK → Finset (Fin 3)
  | some none => Finset.univ
  | some (some _) => {0}
  | none => ∅
/-- how many units each is worth; -/
def amt : Option CK → ℕ
  | some none => 1
  | _ => N
/-- what each hands over. -/
def pay (c : Dev nD) (j : Fin 3) : Option CK → sProp 𝕄
  | some none => barP c j
  | some (some (false, t)) => srcP X c t
  | some (some (true, t)) => rcvP X c t
  | none => iprop(emp)

/-- The schedule: one round for every cell of the protocol, none after it. -/
def Rd : Rounds.Schedule (GSem nD τ sig) (Fin 3) 𝕄 where
  duties g r := if r = 0 ∧ g.1.2 = .tc then dut (kind g.2) else ∅
  unitless _ := False
  amount g _ _ := amt (kind g.2)
  payload g _ j := pay X g.1.1 j (kind g.2)
  amount_pos g _ _ _ := by
    show 0 < amt (kind g.2)
    unfold amt; split
    · exact Nat.one_pos
    · exact N_pos

instance Rd_storable (g : GSem nD τ sig) (r : ℕ) (j : Fin 3) : BI.Storable (upEmb : UEmb _ 𝕄) ((Rd X).payload g r j) := by
  show BI.Storable upEmb (pay X g.1.1 j (kind g.2))
  unfold pay; split <;> infer_instance

/-- The duties of a cell's round. -/
theorem duties_at (ck : Dev nD × CK) : (Rd X).duties (kcell ck) 0 = dut (some ck.2) := by
  dsimp only [Rd]; rw [if_pos ⟨rfl, rfl⟩, kind_csem]
/-- No cell has a second round. -/
theorem duties_later (g : GSem nD τ sig) : ∀ r, 1 ≤ r → (Rd X).duties g r = ∅ := fun r hr => if_neg fun h => by omega
/-- The units of a cell's duty. -/
theorem amount_at (ck : Dev nD × CK) (j) : (Rd X).amount (kcell ck) 0 j = amt (some ck.2) := by
  show amt (kind (csem ck.2)) = _; rw [kind_csem]
/-- What a cell's duty hands over. -/
theorem payload_at (ck : Dev nD × CK) (j) : (Rd X).payload (kcell ck) 0 j = pay X ck.1 j (some ck.2) := by
  show pay X ck.1 j (kind (csem ck.2)) = _; rw [kind_csem]
/-- The barrier's round is worth three units, one from each neighbour. -/
theorem expect_bar (c : Dev nD) : (Rd X).expect (barC c) 0 = 3 := by
  unfold Schedule.expect Schedule.amountOf
  rw [duties_at, Finset.sum_congr rfl fun d _ => amount_at X (c, none) d]; rfl
/-- A transfer's cell is worth one transfer's units on either side. -/
theorem expect_xfer (c : Dev nD) (b : Bool) (t : T) : (Rd X).expect (kcell (c, some (b, t))) 0 = N := by
  unfold Schedule.expect Schedule.amountOf
  rw [duties_at]; show ∑ d ∈ {0}, _ = N; rw [Finset.sum_singleton, amount_at]; rfl
/-- What the wait on a transfer's cell brings: the one duty's payload. -/
theorem rest_xfer (c : Dev nD) (b : Bool) (t : T) :
    bigSep ((Rd X).duties (kcell (c, some (b, t))) 0 \ ∅) (fun d => (Rd X).payload (kcell (c, some (b, t))) 0 d) = pay X c 0 (some (some (b, t))) := by
  rw [Finset.sdiff_empty, duties_at]; show bigSep {0} _ = _; rw [bigSep_singleton, payload_at]
/-- The wait on the source side brings the source back. -/
theorem rest_snd (c : Dev nD) (t : T) :
    bigSep ((Rd X).duties (sndC c t) 0 \ ∅) (fun d => (Rd X).payload (sndC c t) 0 d) = srcP X c t := rest_xfer X c false t
/-- The wait on the landing side brings the landed tile. -/
theorem rest_rcv (c : Dev nD) (t : T) :
    bigSep ((Rd X).duties (rcvC c t) 0 \ ∅) (fun d => (Rd X).payload (rcvC c t) 0 d) = rcvP X c t := rest_xfer X c true t
/-- The source side's duty hands over the source. -/
theorem payload_snd (c : Dev nD) (t : T) : (Rd X).payload (sndC c t) 0 0 = srcP X c t := payload_at X (c, some (false, t)) 0
/-- The landing side's duty hands over the landed tile. -/
theorem payload_rcv (c : Dev nD) (t : T) : (Rd X).payload (rcvC c t) 0 0 = rcvP X c t := payload_at X (c, some (true, t)) 0
/-- A transfer's cells have the duty 0. -/
theorem duty_xfer (c : Dev nD) (b : Bool) (t : T) : (0 : Fin 3) ∈ (Rd X).duties (kcell (c, some (b, t))) 0 := by
  rw [duties_at]; exact Finset.mem_singleton_self _
/-- Every tile's transfer credits the same number of units. -/
theorem oT_amount (k t : T) : (oT k).view.amount (.dma (rcvS t)) = N := rfl
/-- The wait on the barrier brings what the three neighbours give. -/
theorem rest_bar (c : Dev nD) :
    bigSep ((Rd X).duties (barC c) 0 \ ∅) (fun d => (Rd X).payload (barC c) 0 d) = bigSep Finset.univ fun j : Fin 3 => barP (F := F) c j := by
  rw [Finset.sdiff_empty, duties_at]; show bigSep Finset.univ _ = _; exact bigSep_congr fun j _ => payload_at X (c, none) j

/-! ## What is owed; the levels -/

/-- A device owes the landings of the transfers it has still to issue. -/
def owed (d : Dev nD) : List Op → CellTallies nD τ sig Unit
  | [] => 0
  | .send t :: R => owed d R + tallyAt (rcvC (tgt d t) t) () N
  | _ :: R => owed d R

/-- Issuing a transfer pays for its landing. -/
theorem owed_send (d : Dev nD) (t : T) (R : List Op) : owed d (.send t :: R) = owed d R + tallyAt (rcvC (tgt d t) t) () N := rfl
/-- Waiting for a landing pays nothing. -/
theorem owed_wr (d : Dev nD) (t : T) (R : List Op) : owed d (.wr t :: R) = owed d R := rfl
/-- Waiting for a source pays nothing. -/
theorem owed_ws (d : Dev nD) (t : T) (R : List Op) : owed d (.ws t :: R) = owed d R := rfl

/-- The TensorCores' semaphores have a level, the others none. -/
def L (g : GSem nD τ sig) : Finset Unit := if g.1.2 = .tc then {()} else ∅
/-- A cell's level: a source 0, the barrier 1, a landing its own. -/
def lvK : Option CK → ℕ
  | some none => 1
  | some (some (true, t)) => lvlR t
  | _ => 0
/-- A semaphore's level is that of its cell. -/
def lv (g : GSem nD τ sig) (_ : Unit) : ℕ := lvK (kind g.2)

/-- A semaphore that is not a TensorCore's has no level. -/
theorem L_of_ne (g : GSem nD τ sig) (h : g.1.2 ≠ .tc) : L g = ∅ := if_neg h
/-- A TensorCore's semaphore has one. -/
theorem L_tc (c : Dev nD) (sm : SemLoc sig) : L ((c : Thread nD τ), sm) = {()} := if_pos rfl
/-- The level of a cell of the protocol. -/
theorem lv_at (ck : Dev nD × CK) : lv (kcell ck) () = lvK (some ck.2) := by unfold lv; rw [kind_csem]

/-- What a device owes is the landing of a transfer still to issue. -/
theorem owed_pos {d : Dev nD} {g : GSem nD τ sig} {u : Unit} : ∀ {R : List Op}, 0 < owed d R g u → ∃ t, Op.send t ∈ R ∧ g = rcvC (tgt d t) t
  | [], h => absurd h (Nat.lt_irrefl 0)
  | .send t :: R, h => by
    unfold owed at h
    rw [Pi.add_apply, Finsupp.add_apply, tallyAt_apply] at h
    by_cases hg : g = rcvC (tgt d t) t
    · exact ⟨t, List.mem_cons_self, hg⟩
    · rw [if_neg (fun h' => hg h'.1), Nat.add_zero] at h
      obtain ⟨t', h', e⟩ := owed_pos h
      exact ⟨t', List.mem_cons_of_mem _ h', e⟩
  | .wr t :: R, h => by obtain ⟨t', h', e⟩ := owed_pos (R := R) h; exact ⟨t', List.mem_cons_of_mem _ h', e⟩
  | .ws t :: R, h => by obtain ⟨t', h', e⟩ := owed_pos (R := R) h; exact ⟨t', List.mem_cons_of_mem _ h', e⟩

/-- With no transfer left to issue nothing is owed. -/
theorem owed_none {d : Dev nD} : ∀ {R : List Op}, (∀ u, Op.send u ∉ R) → owed d R = 0
  | [], _ => rfl
  | .send t :: R, h => absurd List.mem_cons_self (h t)
  | .wr t :: R, h => owed_none (R := R) fun u hu => h u (List.mem_cons_of_mem _ hu)
  | .ws t :: R, h => owed_none (R := R) fun u hu => h u (List.mem_cons_of_mem _ hu)

/-- A wait below every landing still owed. -/
theorem mayWait_owed (d : Dev nD) (R : List Op) (sm : SemLoc sig) (h : ∀ u, Op.send u ∈ R → lvK (kind sm) < lvlR u) :
    (levAts L lv : sProp 𝕄) ⊢ MayWait (d : Thread nD τ) sm () (owed d R) :=
  MayOwe.of_cut (L := L) (lev := lv) (lvK (kind sm)) (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact le_refl _)
    (fun g u hg => by obtain ⟨t, ht, rfl⟩ := owed_pos hg; rw [lv_at]; exact h t ht)

end Cert.KernelIdealProof

end
-- ==== Proof.Steps.lean ====
module

public import proofs.«01_k».proof.Proof.Proto

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XC F) (K : Dev nD × CK → ℕ)
variable (Z : sProp (MT nD τ sig Unit (Elt F) ℕ UU ℕ))

/-! ## The state between two operations -/

/-- Every cell's invariant, that its round is open, and the levels: known to all. -/
def recs : sProp 𝕄 :=
  iprop((bigSep Finset.univ fun ck : Dev nD × CK => cellInv ER (Rd X) (K ck) (kcell ck)) ∗ (bigSep Finset.univ fun ck : Dev nD × CK => reached ER (kcell ck) 0) ∗ levAts L lv)
instance recs_persistent : BI.Persistent (recs X K) := by unfold recs; infer_instance

/-- Any one cell's invariant is known. -/
theorem inv_at (ck : Dev nD × CK) : recs X K ⊢ cellInv ER (Rd X) (K ck) (kcell ck) := by
  unfold recs; iintro ⟨#H, -, -⟩
  iapply (show (bigSep Finset.univ fun ck : Dev nD × CK => (cellInv ER (Rd X) (K ck) (kcell ck) : sProp 𝕄)) ⊢ cellInv ER (Rd X) (K ck) (kcell ck) from bigSep_elim (Finset.mem_univ ck)); iexact H
/-- That any one cell's round is open is known. -/
theorem reached_at (ck : Dev nD × CK) : recs X K ⊢ reached ER (kcell ck) 0 := by
  unfold recs; iintro ⟨-, #H, -⟩
  iapply (show (bigSep Finset.univ fun ck : Dev nD × CK => (reached ER (kcell ck) 0 : sProp 𝕄)) ⊢ reached ER (kcell ck) 0 from bigSep_elim (Finset.mem_univ ck)); iexact H
/-- The levels are known. -/
theorem levs_at : recs X K ⊢ levAts L lv := by
  unfold recs; iintro ⟨-, -, #H⟩; iexact H

/-- A transfer is under way: issued, its source not yet waited for. -/
abbrev infl (u : T) (R : List Op) : Prop := Op.send u ∉ R ∧ Op.ws u ∈ R
/-- The transfer of way `j` that forwards a landing. -/
def us (j : Fin 3) (t : T) : Option T := if j = 1 then lu t else ru t
/-- A landing's half of way `j` is here: landed, and not being forwarded. -/
abbrev held (j : Fin 3) (R : List Op) (t : T) : Prop := Op.wr t ∉ R ∧ ∀ u, us j t = some u → ¬ infl u R

/-- The transfer of way `j` that forwards `p` is found from `p`; -/
theorem us_of_par {j : Fin 3} {t p : T} (hj : j ≠ 0) (hc : cls t = j) (hp : par t = some p) : us j p = some t := by
  unfold us; split
  · next h => exact lu_of_par t p (hc.trans h) hp
  · next h => exact ru_of_par t p (hc.trans (by omega)) hp
/-- and what is found from `p` is of way `j` and forwards `p`. -/
theorem par_of_us {j : Fin 3} {t p : T} (hj : j ≠ 0) (h : us j p = some t) : cls t = j ∧ par t = some p := by
  unfold us at h; split at h
  · next h' => have := par_of_lu t p h; exact ⟨this.1.trans h'.symm, this.2⟩
  · next h' => have := par_of_ru t p h; exact ⟨this.1.trans (by omega), this.2⟩

/-- Issuing `t` changes only the half that `t` forwards. -/
theorem held_send {j : Fin 3} {R : List Op} {s t : T} (h : us j s ≠ some t) : held j (.send t :: R) s ↔ held j R s := by
  have e : ∀ u, us j s = some u → (infl u (.send t :: R) ↔ infl u R) := fun u hu => by
    have : u ≠ t := fun e => h (e ▸ hu)
    simp [infl, List.mem_cons, this]
  refine and_congr (by simp) (forall_congr' fun u => forall_congr' fun hu => not_congr (e u hu))
/-- Waiting for the source of `t` changes only the half that `t` forwards. -/
theorem held_ws {j : Fin 3} {R : List Op} {s t : T} (h : us j s ≠ some t) : held j (.ws t :: R) s ↔ held j R s := by
  have e : ∀ u, us j s = some u → (infl u (.ws t :: R) ↔ infl u R) := fun u hu => by
    have : u ≠ t := fun e => h (e ▸ hu)
    simp [infl, List.mem_cons, this]
  refine and_congr (by simp) (forall_congr' fun u => forall_congr' fun hu => not_congr (e u hu))
/-- Waiting for the landing of `t` changes only the halves of `t`. -/
theorem held_wr {j : Fin 3} {R : List Op} {s t : T} (h : s ≠ t) : held j (.wr t :: R) s ↔ held j R s :=
  and_congr (by simp [h]) (forall_congr' fun u => forall_congr' fun hu => not_congr (by simp [infl]))

/-- Before `t` is issued: both its duties' tokens, and the tile at the target that it will overwrite. -/
def tokE (d : Dev nD) (R : List Op) (t : T) : sProp 𝕄 :=
  if Op.send t ∈ R then iprop(dutyTok ER (sndC d t) 0 0 ∗ dutyTok ER (rcvC (tgt d t) t) 0 0 ∗ ∃ f : OC F, oPt fullShare (tgt d t) (blk d t) f) else iprop(emp)
/-- The landing side of `t`: the round ahead, with its credit, or behind. -/
def rcvE (d : Dev nD) (R : List Op) (t : T) : sProp 𝕄 :=
  if Op.wr t ∈ R then iprop(atPos ER (rcvC d t) 0 ∅ 0 ∗ cred (tallyAt (rcvC d t) () N)) else atPos ER (rcvC d t) (0 + 1) ∅ 0
/-- The source side of `t`: the round ahead, with its credit once `t` is issued, or behind. -/
def sndE (d : Dev nD) (R : List Op) (t : T) : sProp 𝕄 :=
  if Op.ws t ∈ R then iprop(atPos ER (sndC d t) 0 ∅ 0 ∗ if Op.send t ∈ R then iprop(emp) else cred (tallyAt (sndC d t) () N)) else atPos ER (sndC d t) (0 + 1) ∅ 0
/-- The operand's tile of the landing `t`, away while a transfer across reads it. -/
def xE (d : Dev nD) (R : List Op) (t : T) : sProp 𝕄 :=
  if cls t = 0 ∧ infl t R then iprop(emp) else xPt fullShare d (lnd d t) (X d)
/-- The half of way `j` of the landing `t`, where it is held. -/
def oE (j : Fin 3) (d : Dev nD) (R : List Op) (t : T) : sProp 𝕄 :=
  if held j R t then oPt (shr j) d (lnd d t) (fin X d) else iprop(emp)

/-- The tiles a device holds of its two buffers when `R` is still to do. -/
def Srcs (d : Dev nD) (R : List Op) : sProp 𝕄 := iprop(bigSep Finset.univ (xE X d R) ∗ bigSep Finset.univ (oE X 1 d R) ∗ bigSep Finset.univ (oE X 2 d R))

/-- Device `d` before its `n`-th operation, `Z` what the transfers leave alone. -/
def St (d : Dev nD) (n : ℕ) : sProp 𝕄 :=
  iprop(recs X K ∗ (∃ W, owes (d : Thread nD τ) (owed d (rest n)) W) ∗ bigSep Finset.univ (tokE (F := F) d (rest n))
    ∗ bigSep Finset.univ (rcvE (F := F) d (rest n)) ∗ bigSep Finset.univ (sndE (F := F) d (rest n)) ∗ Srcs X d (rest n) ∗ Z)

/-- One member of a family exchanged, the others the same. -/
theorem touch {f g : T → sProp 𝕄} (t : T) (h : ∀ s, s ≠ t → f s = g s) : bigSep Finset.univ f ⊢ iprop(f t ∗ (g t -∗ bigSep Finset.univ g)) := by
  have e : bigSep (Finset.univ.erase t) f = bigSep (Finset.univ.erase t) g := bigSep_congr fun s hs => h s (Finset.ne_of_mem_erase hs)
  have e1 : bigSep Finset.univ f = iprop(f t ∗ bigSep (Finset.univ.erase t) f) := BI.bigSep_erase (Finset.mem_univ t)
  have e2 : bigSep Finset.univ g = iprop(g t ∗ bigSep (Finset.univ.erase t) g) := BI.bigSep_erase (Finset.mem_univ t)
  rw [e1, e2, e]
  iintro ⟨Hf, H⟩
  isplitl [Hf]; · iexact Hf
  iintro Hg
  isplitl [Hg]; · iexact Hg
  iexact H

/-- An operand's tile stays where it is if its transfer's being under way does not change. -/
theorem xE_other (d : Dev nD) {R : List Op} {o : Op} {s : T} (h : cls s = 0 → (infl s (o :: R) ↔ infl s R)) : xE X d (o :: R) s = xE X d R s := by
  unfold xE; by_cases hc : cls s = 0
  · simp only [hc, true_and, h hc]
  · rw [if_neg (fun h => hc h.1), if_neg (fun h => hc h.1)]
/-- A half stays where it is if its being held does not change. -/
theorem oE_other (j : Fin 3) (d : Dev nD) {R R' : List Op} {s : T} (h : held j R' s ↔ held j R s) : oE X j d R' s = oE X j d R s := by
  unfold oE; simp only [h]

/-- A transfer goes one of three ways. -/
theorem cls_cases (t : T) : cls t = 0 ∨ (cls t = 1 ∨ cls t = 2) := by omega

/-- The halves of way `j` when an operation on `t` comes off that is not of way `j`, or not a transfer's. -/
theorem oE_same (j : Fin 3) (hj : j ≠ 0) (d : Dev nD) {R : List Op} {t : T} {o : Op} (ho : o = .send t ∨ o = .ws t) (h : cls t ≠ j) :
    bigSep Finset.univ (oE X j d (o :: R)) = bigSep Finset.univ (oE X j d R) :=
  bigSep_congr fun s _ => oE_other X j d (by
    have hs : us j s ≠ some t := fun e => h (par_of_us hj e).1
    rcases ho with rfl | rfl
    · exact held_send hs
    · exact held_ws hs)
/-- The operand's tiles when an operation on a ring transfer comes off. -/
theorem xE_same (d : Dev nD) {R : List Op} {t : T} {o : Op} (ho : o = .send t ∨ o = .ws t) (h : cls t ≠ 0) :
    bigSep Finset.univ (xE X d (o :: R)) = bigSep Finset.univ (xE X d R) :=
  bigSep_congr fun s _ => xE_other X d fun hs => by
    have hst : s ≠ t := fun e => h (e ▸ hs)
    rcases ho with rfl | rfl <;> simp [infl, hst]

/-- The half of way `j` of the forwarded landing taken out, -/
theorem half_take (j : Fin 3) (hj : j ≠ 0) (d : Dev nD) {R : List Op} {t : T} (hc : cls t = j) (ok : okStep (.send t) R) :
    bigSep Finset.univ (oE X j d (.send t :: R)) ⊢ iprop(oPt (shr j) d (blk d t) (fin X d) ∗ bigSep Finset.univ (oE X j d R)) := by
  obtain ⟨p, hp⟩ : ∃ p, par t = some p := Option.ne_none_iff_exists'.mp fun h => hj (hc.symm.trans ((par_none t).mpr h))
  have hu := us_of_par hj hc hp
  refine (touch (g := oE X j d R) p fun s hs => oE_other X j d (held_send fun e => hs (by
    have := (par_of_us hj e).2; rw [hp] at this; exact (Option.some.inj this).symm))).trans ?_
  have e1 : oE X j d (.send t :: R) p = oPt (shr j) d (blk d t) (fin X d) := by
    unfold oE; rw [if_pos, blk_par d t p hp]
    refine ⟨by simpa using ok.2.2 p hp, fun u hu' => ?_⟩
    rw [hu] at hu'; cases hu'; simp [infl]
  have e2 : oE X j d R p = iprop(emp) := by
    unfold oE; exact if_neg fun h => h.2 t hu ⟨ok.1, ok.2.1⟩
  rw [e1, e2]
  iintro ⟨Hp, H⟩
  isplitl [Hp]; · iexact Hp
  iapply H; iempintro
/-- and put back. -/
theorem half_put (j : Fin 3) (hj : j ≠ 0) (d : Dev nD) {R : List Op} {t : T} (hc : cls t = j) (ok : okStep (.ws t) R) :
    iprop(oPt (shr j) d (blk d t) (fin X d) ∗ bigSep Finset.univ (oE X j d (.ws t :: R))) ⊢ bigSep Finset.univ (oE X j d R) := by
  obtain ⟨p, hp⟩ : ∃ p, par t = some p := Option.ne_none_iff_exists'.mp fun h => hj (hc.symm.trans ((par_none t).mpr h))
  have hu := us_of_par hj hc hp
  refine (sep_mono_right (touch (g := oE X j d R) p fun s hs => oE_other X j d (held_ws fun e => hs (by
    have := (par_of_us hj e).2; rw [hp] at this; exact (Option.some.inj this).symm)))).trans ?_
  have e1 : oE X j d R p = oPt (shr j) d (blk d t) (fin X d) := by
    unfold oE; rw [if_pos, blk_par d t p hp]
    refine ⟨ok.2.2 p hp, fun u hu' => ?_⟩
    rw [hu] at hu'; cases hu'; exact fun h => ok.1 h.2
  have e2 : oE X j d (.ws t :: R) p = iprop(emp) := by
    unfold oE; exact if_neg fun h => h.2 t hu ⟨by simpa using ok.2.1 t, List.mem_cons_self⟩
  rw [e1, e2]
  iintro ⟨Hp, -, H⟩
  iapply H; iexact Hp

/-- The tile a transfer across reads taken out, -/
theorem x_take (d : Dev nD) {R : List Op} {t : T} (hc : cls t = 0) (ok : okStep (.send t) R) :
    bigSep Finset.univ (xE X d (.send t :: R)) ⊢ iprop(xPt fullShare d (blk d t) (X d) ∗ bigSep Finset.univ (xE X d R)) := by
  refine (touch (g := xE X d R) t fun s hs => xE_other X d fun _ => by simp [infl, hs]).trans ?_
  have e1 : xE X d (.send t :: R) t = xPt fullShare d (blk d t) (X d) := by
    unfold xE; rw [if_neg (by simp [infl]), blk_across d t hc]
  have e2 : xE X d R t = iprop(emp) := by unfold xE; exact if_pos ⟨hc, ok.1, ok.2.1⟩
  rw [e1, e2]
  iintro ⟨Hp, H⟩
  isplitl [Hp]; · iexact Hp
  iapply H; iempintro
/-- and put back. -/
theorem x_put (d : Dev nD) {R : List Op} {t : T} (hc : cls t = 0) (ok : okStep (.ws t) R) :
    iprop(xPt fullShare d (blk d t) (X d) ∗ bigSep Finset.univ (xE X d (.ws t :: R))) ⊢ bigSep Finset.univ (xE X d R) := by
  refine (sep_mono_right (touch (g := xE X d R) t fun s hs => xE_other X d fun _ => by simp [infl, hs])).trans ?_
  have e1 : xE X d R t = xPt fullShare d (blk d t) (X d) := by
    unfold xE; rw [if_neg (fun h => ok.1 h.2.2), blk_across d t hc]
  have e2 : xE X d (.ws t :: R) t = iprop(emp) := by unfold xE; exact if_pos ⟨hc, by simpa using ok.2.1 t, List.mem_cons_self⟩
  rw [e1, e2]
  iintro ⟨Hp, -, H⟩
  iapply H; iexact Hp

/-- A transfer's source taken out of what the device holds, -/
theorem src_take (d : Dev nD) {R : List Op} {t : T} (ok : okStep (.send t) R) : Srcs X d (.send t :: R) ⊢ iprop(srcP X d t ∗ Srcs X d R) := by
  unfold Srcs srcP
  rcases cls_cases t with hc | hc | hc
  · rw [if_pos hc, oE_same X 1 (by decide) d (.inl rfl) (by rw [hc]; decide), oE_same X 2 (by decide) d (.inl rfl) (by rw [hc]; decide)]
    iintro ⟨H0, H1, H2⟩
    ihave H := (x_take X d hc ok) $$ H0
    icases H with ⟨Hp, H0⟩
    isplitl [Hp]; · iexact Hp
    isplitl [H0]; · iexact H0
    isplitl [H1]; · iexact H1
    iexact H2
  · rw [if_neg (by rw [hc]; decide), hc, xE_same X d (.inl rfl) (by rw [hc]; decide), oE_same X 2 (by decide) d (.inl rfl) (by rw [hc]; decide)]
    iintro ⟨H0, H1, H2⟩
    ihave H := (half_take X 1 (by decide) d hc ok) $$ H1
    icases H with ⟨Hp, H1⟩
    isplitl [Hp]; · iexact Hp
    isplitl [H0]; · iexact H0
    isplitl [H1]; · iexact H1
    iexact H2
  · rw [if_neg (by rw [hc]; decide), hc, xE_same X d (.inl rfl) (by rw [hc]; decide), oE_same X 1 (by decide) d (.inl rfl) (by rw [hc]; decide)]
    iintro ⟨H0, H1, H2⟩
    ihave H := (half_take X 2 (by decide) d hc ok) $$ H2
    icases H with ⟨Hp, H2⟩
    isplitl [Hp]; · iexact Hp
    isplitl [H0]; · iexact H0
    isplitl [H1]; · iexact H1
    iexact H2
/-- and put back. -/
theorem src_put (d : Dev nD) {R : List Op} {t : T} (ok : okStep (.ws t) R) : iprop(srcP X d t ∗ Srcs X d (.ws t :: R)) ⊢ Srcs X d R := by
  unfold Srcs srcP
  rcases cls_cases t with hc | hc | hc
  · rw [if_pos hc, oE_same X 1 (by decide) d (.inr rfl) (by rw [hc]; decide), oE_same X 2 (by decide) d (.inr rfl) (by rw [hc]; decide)]
    iintro ⟨Hp, H0, H1, H2⟩
    isplitl [Hp H0]
    · iapply (x_put X d hc ok); isplitl [Hp]; · iexact Hp
      iexact H0
    isplitl [H1]; · iexact H1
    iexact H2
  · rw [if_neg (by rw [hc]; decide), hc, xE_same X d (.inr rfl) (by rw [hc]; decide), oE_same X 2 (by decide) d (.inr rfl) (by rw [hc]; decide)]
    iintro ⟨Hp, H0, H1, H2⟩
    isplitl [H0]; · iexact H0
    isplitl [Hp H1]
    · iapply (half_put X 1 (by decide) d hc ok); isplitl [Hp]; · iexact Hp
      iexact H1
    iexact H2
  · rw [if_neg (by rw [hc]; decide), hc, xE_same X d (.inr rfl) (by rw [hc]; decide), oE_same X 1 (by decide) d (.inr rfl) (by rw [hc]; decide)]
    iintro ⟨Hp, H0, H1, H2⟩
    isplitl [H0]; · iexact H0
    isplitl [H1]; · iexact H1
    iapply (half_put X 2 (by decide) d hc ok); isplitl [Hp]; · iexact Hp
    iexact H2

/-- A landing's half of way `j` put in. -/
theorem land_half (j : Fin 3) (hj : j ≠ 0) (d : Dev nD) {R : List Op} {t : T} (h1 : Op.wr t ∉ R) (h2 : ∀ u, us j t = some u → Op.send u ∈ R) :
    iprop(oPt (shr j) d (lnd d t) (fin X d) ∗ bigSep Finset.univ (oE X j d (.wr t :: R))) ⊢ bigSep Finset.univ (oE X j d R) := by
  refine (sep_mono_right (touch (g := oE X j d R) t fun s hs => oE_other X j d (held_wr hs))).trans ?_
  have e1 : oE X j d R t = oPt (shr j) d (lnd d t) (fin X d) := by
    unfold oE; exact if_pos ⟨h1, fun u hu h => h.1 (h2 u hu)⟩
  have e2 : oE X j d (.wr t :: R) t = iprop(emp) := by unfold oE; exact if_neg fun h => h.1 List.mem_cons_self
  rw [e1, e2]
  iintro ⟨Hp, -, H⟩
  iapply H; iexact Hp
/-- A landing put in. -/
theorem land_put (d : Dev nD) {R : List Op} {t : T} (ok : okStep (.wr t) R) : iprop(rcvP X d t ∗ Srcs X d (.wr t :: R)) ⊢ Srcs X d R := by
  unfold Srcs rcvP
  rw [show bigSep Finset.univ (xE X d (.wr t :: R)) = bigSep Finset.univ (xE X d R) from bigSep_congr fun s _ => xE_other X d fun _ => by simp [infl]]
  iintro ⟨Hp, H0, H1, H2⟩
  ihave H := (o_halves d (lnd d t) (fin X d)).1 $$ Hp
  icases H with ⟨Hl, Hr⟩
  isplitl [H0]; · iexact H0
  isplitl [Hl H1]
  · iapply (land_half X 1 (by decide) d ok.1 fun u hu => (ok.2.1 u (by unfold us at hu; rwa [if_pos rfl] at hu)).1)
    isplitl [Hl]; · iexact Hl
    iexact H1
  · iapply (land_half X 2 (by decide) d ok.1 fun u hu => (ok.2.2.1 u (by unfold us at hu; rwa [if_neg (by decide)] at hu)).1)
    isplitl [Hr]; · iexact Hr
    iexact H2

/-! ## The three steps -/

/-- Issuing `t` takes its tokens and its target's tile out. -/
theorem tok_send (d : Dev nD) {R : List Op} {t : T} (ok : okStep (.send t) R) :
    bigSep Finset.univ (tokE (F := F) d (.send t :: R)) ⊢ iprop((dutyTok ER (sndC d t) 0 0 ∗ dutyTok ER (rcvC (tgt d t) t) 0 0 ∗ ∃ f : OC F, oPt fullShare (tgt d t) (blk d t) f)
      ∗ bigSep Finset.univ (tokE (F := F) d R)) := by
  refine (touch (g := tokE (F := F) d R) t fun s hs => by unfold tokE; simp [hs]).trans ?_
  rw [show tokE (F := F) d (.send t :: R) t = _ from if_pos List.mem_cons_self, show tokE (F := F) d R t = iprop(emp) from if_neg ok.1]
  iintro ⟨Hp, H⟩
  isplitl [Hp]; · iexact Hp
  iapply H; iempintro
/-- Issuing `t` puts its source side's credit in. -/
theorem snd_send (d : Dev nD) {R : List Op} {t : T} (ok : okStep (.send t) R) :
    iprop(cred (tallyAt (sndC d t) () N) ∗ bigSep Finset.univ (sndE (F := F) d (.send t :: R))) ⊢ bigSep Finset.univ (sndE (F := F) d R) := by
  refine (sep_mono_right (touch (g := sndE (F := F) d R) t fun s hs => by unfold sndE; simp [hs])).trans ?_
  rw [show sndE (F := F) d (.send t :: R) t = iprop(atPos ER (sndC d t) 0 ∅ 0 ∗ emp) by
      unfold sndE; rw [if_pos (List.mem_cons_of_mem _ ok.2.1), if_pos List.mem_cons_self],
    show sndE (F := F) d R t = iprop(atPos ER (sndC d t) 0 ∅ 0 ∗ cred (tallyAt (sndC d t) () N)) by
      unfold sndE; rw [if_pos ok.2.1, if_neg ok.1]]
  iintro ⟨Hc, ⟨Ha, -⟩, H⟩
  iapply H
  isplitl [Ha]; · iexact Ha
  iexact Hc

/-- Issuing a transfer. -/
theorem wp_send_core {n : ℕ} {d : Dev nD} {t : T} (hn : ops[n]? = some (.send t)) {src : Memref sig .tc .vmem S1x32x1024 .f32} {dst : Memref sig .tc .vmem S1x32x1024 .f32} {c' : Dev nD} {sS sR : DmaSem sig}
    (hd : dst = oT (blk d t)) (hc : c' = tgt d t) (hS : sS = sndS t) (hR : sR = rcvS t) {q : PosShare TreeShare} {fs : Buf (Elt F) (src.view.loc (d : Thread nD τ))}
    (hsrcP : srcP X d t = (src.view.loc (d : Thread nD τ) ↦[src.view.set]{q} fs : sProp 𝕄))
    (hread : ∀ x, src.view.read (Elt F) fs x = fin X (tgt d t) ((tile (blk d t)).emb x))
    {hsc : (dst : Memref sig (Dev.tc c' : Thread nD τ).2.kind .vmem S1x32x1024 .f32).view.ref.isScScratch = false} {hsrc : src.view.WordExact} {hdst : dst.view.WordExact}
    {hsem : DmaTarget.Typed .vmem (.dma sR) (.remote (Dev.tc c' : Thread nD τ) dst (.dma sS) hsc)}
    {α : Type} {Q : α → sProp 𝕄} {k : PUnit → Prog (TpuEff nD τ sig (Elt F) Λ₀ .tc) α}
    (h : St X K Z d (n + 1) ⊢ wp frame (wpE (defs₀ (F := F)) 𝒱₀ (d : Thread nD τ) none) Set.univ (k ⟨⟩) Q) :
    St X K Z d n ⊢ wp frame (wpE (defs₀ (F := F)) 𝒱₀ (d : Thread nD τ) none) Set.univ
      (.op (.enqueueDma src (.remote (Dev.tc c' : Thread nD τ) dst (.dma sS) hsc) (.dma sR) hsrc hdst hsem) k) Q := by
  subst hd hc hS hR
  have ok := rest_ok hn
  have e := rest_cons hn
  unfold St at h ⊢
  rw [e, show rcvE (F := F) d (.send t :: rest (n + 1)) = rcvE d (rest (n + 1)) from funext fun s => by unfold rcvE; simp]
  iintro ⟨#HR, ⟨%W, HO⟩, HT, HV, HS, HX, HZ⟩
  ihave H := (tok_send (F := F) d ok) $$ HT
  icases H with ⟨⟨Ht1, Ht2, %fd, Hd⟩, HT⟩
  ihave H := (src_take X d ok) $$ HX
  icases H with ⟨Hs, HX⟩
  ihave Hs := (Entails.of_eq hsrcP) $$ Hs
  iapply (Rounds.wp_send_pointsTo 𝒱₀ ER (Rd X) (d : Thread nD τ) none (κ₁ := K (d, some (false, t))) (κ₂ := K (tgt d t, some (true, t)))
    (r₁ := 0) (r₂ := 0) (d₁ := 0) (d₂ := 0) (fd := fd) (q := q) (fs := fs)
    (duty_xfer X d false t) (duty_xfer X (tgt d t) true t)
    () () N (oT_amount (blk d t) t) (amount_at X (d, some (false, t)) 0) (amount_at X (tgt d t, some (true, t)) 0) (owed d (rest (n + 1))) (owed_send d t _) (W := W)
    (by rw [← hsrcP]; exact Entails.of_eq (payload_snd X d t).symm)
    (by
      refine BI.Entails.trans ?_ (Entails.of_eq (payload_rcv X (tgt d t) t).symm)
      unfold rcvP; rw [lnd_tgt]
      exact Entails.of_eq (landed_eq X fullShare (tgt d t) (blk d t) fd _ hread))) $$ [HO Ht1 Ht2 Hd Hs]
  · isplitr; · iapply (inv_at X K (d, some (false, t))); iexact HR
    isplitr; · iapply (inv_at X K (tgt d t, some (true, t))); iexact HR
    isplitl [Hs]; · iexact Hs
    isplitl [Hd]; · unfold oPt; iexact Hd
    isplitl [HO]; · iexact HO
    isplitl [Ht1]; · iexact Ht1
    isplitr; · iapply (reached_at X K (d, some (false, t))); iexact HR
    isplitl [Ht2]; · iexact Ht2
    iapply (reached_at X K (tgt d t, some (true, t))); iexact HR
  iintro ⟨Hc, HO⟩
  iapply h
  isplitr; · iexact HR
  isplitl [HO]; · iexists W; iexact HO
  isplitl [HT]; · iexact HT
  isplitl [HV]; · iexact HV
  isplitl [HS Hc]
  · iapply (snd_send (F := F) d ok); isplitl [Hc]; · iexact Hc
    iexact HS
  isplitl [HX]; · iexact HX
  iexact HZ

/-- The operand's slice at a tile's offset is that tile. -/
theorem xT_eq {k : T} {off : Fin 3 → ℕ} {inb : ∀ a, off a + S1x32x1024.size a ≤ S1x2048x1024.size a} {hr} (h : off = toff k) :
    (xM.slice (Rect.unit (s := S1x2048x1024) off S1x32x1024.size inb) hr : Memref sig .tc .vmem S1x32x1024 .f32) = xT k := by subst h; rfl
/-- The result's slice at a tile's offset is that tile. -/
theorem oT_eq {k : T} {off : Fin 3 → ℕ} {inb : ∀ a, off a + S1x32x1024.size a ≤ S1x2048x1024.size a} {hr} (h : off = toff k) :
    (oM.slice (Rect.unit (s := S1x2048x1024) off S1x32x1024.size inb) hr : Memref sig .tc .vmem S1x32x1024 .f32) = oT k := by subst h; rfl

/-- An element of tile `k` has the tile `k`. -/
theorem tileOf_emb (k : T) (x : S1x32x1024.Idx) : tileOf ((tile k).emb x) = k :=
  tileOf_mem (by rw [← Rect.map_emb_univ]; exact Finset.mem_map_of_mem _ (Finset.mem_univ x))

/-- The transfer of the `n`-th operation. -/
def opT (n : ℕ) : T := match ops[n]? with
  | some (.send t) => t
  | some (.wr t) => t
  | some (.ws t) => t
  | none => 0

/-- Issuing the `n`-th operation's transfer, its source a tile of the operand or of the result. -/
theorem wp_send {n : ℕ} {d : Dev nD} (hn : ops[n]? = some (.send (opT n))) {src dst : Memref sig .tc .vmem S1x32x1024 .f32} {c' : Dev nD} {sS sR : DmaSem sig}
    (hs : (cls (opT n) = 0 ∧ src = xT (blk d (opT n))) ∨ (cls (opT n) ≠ 0 ∧ src = oT (blk d (opT n))))
    (hd : dst = oT (blk d (opT n))) (hc : c'.val = (tgt d (opT n)).val) (hS : sS = sndS (opT n)) (hR : sR = rcvS (opT n))
    {hsc : (dst : Memref sig (Dev.tc c' : Thread nD τ).2.kind .vmem S1x32x1024 .f32).view.ref.isScScratch = false} {hsrc : src.view.WordExact} {hdst : dst.view.WordExact}
    {hsem : DmaTarget.Typed .vmem (.dma sR) (.remote (Dev.tc c' : Thread nD τ) dst (.dma sS) hsc)}
    {α : Type} {Q : α → sProp 𝕄} {k : PUnit → Prog (TpuEff nD τ sig (Elt F) Λ₀ .tc) α}
    (h : St X K Z d (n + 1) ⊢ wp frame (wpE (defs₀ (F := F)) 𝒱₀ (d : Thread nD τ) none) Set.univ (k ⟨⟩) Q) :
    St X K Z d n ⊢ wp frame (wpE (defs₀ (F := F)) 𝒱₀ (d : Thread nD τ) none) Set.univ
      (.op (.enqueueDma src (.remote (Dev.tc c' : Thread nD τ) dst (.dma sS) hsc) (.dma sR) hsrc hdst hsem) k) Q := by
  rcases hs with ⟨h0, rfl⟩ | ⟨h0, rfl⟩
  · refine wp_send_core X K Z hn hd (Fin.ext hc) hS hR (q := fullShare) (fs := X d) (by unfold srcP xPt; rw [if_pos h0]) (fun x => ?_) h
    show X d ((tile (blk d (opT n))).emb x) = X (org (tgt d (opT n)) (tileOf ((tile (blk d (opT n))).emb x))) ((tile (blk d (opT n))).emb x)
    rw [tileOf_emb, org_x d _ h0]
  · refine wp_send_core X K Z hn hd (Fin.ext hc) hS hR (q := shr (cls (opT n))) (fs := fin X d) (by unfold srcP oPt; rw [if_neg h0]) (fun x => ?_) h
    show X (org d (tileOf ((tile (blk d (opT n))).emb x))) ((tile (blk d (opT n))).emb x) = X (org (tgt d (opT n)) (tileOf ((tile (blk d (opT n))).emb x))) ((tile (blk d (opT n))).emb x)
    rw [tileOf_emb, org_fwd d _ h0]

/-- Waiting for the landing of `t` takes its position and credit out, and puts the round behind. -/
theorem rcv_wr (d : Dev nD) {R : List Op} {t : T} (ok : okStep (.wr t) R) :
    bigSep Finset.univ (rcvE (F := F) d (.wr t :: R)) ⊢ iprop((atPos ER (rcvC d t) 0 ∅ 0 ∗ cred (tallyAt (rcvC d t) () N)) ∗ (atPos ER (rcvC d t) (0 + 1) ∅ 0 -∗ bigSep Finset.univ (rcvE (F := F) d R))) := by
  refine (touch (g := rcvE (F := F) d R) t fun s hs => by unfold rcvE; simp [hs]).trans ?_
  rw [show rcvE (F := F) d (.wr t :: R) t = _ from if_pos List.mem_cons_self, show rcvE (F := F) d R t = _ from if_neg ok.1]
/-- Waiting for the source of `t` takes its position and credit out, and puts the round behind. -/
theorem snd_ws (d : Dev nD) {R : List Op} {t : T} (ok : okStep (.ws t) R) :
    bigSep Finset.univ (sndE (F := F) d (.ws t :: R)) ⊢ iprop((atPos ER (sndC d t) 0 ∅ 0 ∗ cred (tallyAt (sndC d t) () N)) ∗ (atPos ER (sndC d t) (0 + 1) ∅ 0 -∗ bigSep Finset.univ (sndE (F := F) d R))) := by
  refine (touch (g := sndE (F := F) d R) t fun s hs => by unfold sndE; simp [hs]).trans ?_
  rw [show sndE (F := F) d (.ws t :: R) t = iprop(atPos ER (sndC d t) 0 ∅ 0 ∗ cred (tallyAt (sndC d t) () N)) by
      unfold sndE; rw [if_pos List.mem_cons_self, if_neg (by simpa using ok.2.1 t)], show sndE (F := F) d R t = _ from if_neg ok.1]

/-- Waiting for a landing. -/
theorem wp_wr {n : ℕ} {d : Dev nD} (hn : ops[n]? = some (.wr (opT n))) {s : DmaSem sig} (hs : s = rcvS (opT n)) {src dst : Memref sig .tc .vmem S1x32x1024 .f32}
    {hsrc : src.view.WordExact} {hdst : dst.view.WordExact} (hN : dst.view.dmaCredit = N)
    {α : Type} {Q : α → sProp 𝕄} {k : PUnit → Prog (TpuEff nD τ sig (Elt F) Λ₀ .tc) α}
    (h : St X K Z d (n + 1) ⊢ wp frame (wpE (defs₀ (F := F)) 𝒱₀ (d : Thread nD τ) none) Set.univ (k ⟨⟩) Q) :
    St X K Z d n ⊢ wp frame (wpE (defs₀ (F := F)) 𝒱₀ (d : Thread nD τ) none) Set.univ (.op (.waitDma2 s src dst hsrc hdst) k) Q := by
  generalize opT n = t at hn hs
  subst hs
  have ok := rest_ok hn
  have e := rest_cons hn
  unfold St at h ⊢
  rw [e, show tokE (F := F) d (.wr t :: rest (n + 1)) = tokE d (rest (n + 1)) from funext fun s => by unfold tokE; simp, owed_wr,
    show sndE (F := F) d (.wr t :: rest (n + 1)) = sndE d (rest (n + 1)) from funext fun s => by unfold sndE; simp]
  iintro ⟨#HR, ⟨%W, HO⟩, HT, HV, HS, HX, HZ⟩
  ihave H := (rcv_wr (F := F) d ok) $$ HV
  icases H with ⟨⟨Ha, Hc⟩, HV⟩
  iapply (Rounds.wp_wait_rest_token 𝒱₀ ER (Rd X) (d : Thread nD τ) none (κ := K (d, some (true, t)))
      (wpE_waitDma2_eq 𝒱₀ (d : Thread nD τ) none Set.univ) (Set.mem_univ _) () (O := owed d (rest (n + 1))) (W := W) (R := 0) (m := 0) (T := ∅)
      (by rw [Nat.zero_add, hN]; exact (expect_xfer X d true t).symm)) $$ [Hc HO Ha]
  · isplitr; · iapply (inv_at X K (d, some (true, t))); iexact HR
    isplitl [Hc]; · rw [hN]; iexact Hc
    isplitl [HO]; · iexact HO
    isplitr
    · iapply (mayWait_owed (F := F) d (rest (n + 1)) (.dma (rcvS t)) (fun u hu => by
        rw [show kind (.dma (rcvS t)) = some (some (true, t)) from kind_csem (some (true, t))]; exact ok.2.2.2 u hu))
      iapply (levs_at X K); iexact HR
    iexact Ha
  iintro ⟨HO, Ha, -, Hp⟩
  ihave Hp := (Entails.of_eq (rest_rcv X d t)) $$ Hp
  iapply h
  isplitr; · iexact HR
  isplitl [HO]; · iexists _; iexact HO
  isplitl [HT]; · iexact HT
  isplitl [HV Ha]; · iapply HV; iexact Ha
  isplitl [HS]; · iexact HS
  isplitr [HZ]
  · iapply (land_put X d ok)
    isplitl [Hp]; · iexact Hp
    iexact HX
  iexact HZ

/-- Waiting for a source to be read. -/
theorem wp_ws {n : ℕ} {d : Dev nD} (hn : ops[n]? = some (.ws (opT n))) {s : DmaSem sig} (hs : s = sndS (opT n)) {src dst : Memref sig .tc .vmem S1x32x1024 .f32}
    {hsrc : src.view.WordExact} {hdst : dst.view.WordExact} (hN : dst.view.dmaCredit = N)
    {α : Type} {Q : α → sProp 𝕄} {k : PUnit → Prog (TpuEff nD τ sig (Elt F) Λ₀ .tc) α}
    (h : St X K Z d (n + 1) ⊢ wp frame (wpE (defs₀ (F := F)) 𝒱₀ (d : Thread nD τ) none) Set.univ (k ⟨⟩) Q) :
    St X K Z d n ⊢ wp frame (wpE (defs₀ (F := F)) 𝒱₀ (d : Thread nD τ) none) Set.univ (.op (.waitDma2 s src dst hsrc hdst) k) Q := by
  generalize opT n = t at hn hs
  subst hs
  have ok := rest_ok hn
  have e := rest_cons hn
  unfold St at h ⊢
  rw [e, show tokE (F := F) d (.ws t :: rest (n + 1)) = tokE d (rest (n + 1)) from funext fun s => by unfold tokE; simp, owed_ws,
    show rcvE (F := F) d (.ws t :: rest (n + 1)) = rcvE d (rest (n + 1)) from funext fun s => by unfold rcvE; simp]
  iintro ⟨#HR, ⟨%W, HO⟩, HT, HV, HS, HX, HZ⟩
  ihave H := (snd_ws (F := F) d ok) $$ HS
  icases H with ⟨⟨Ha, Hc⟩, HS⟩
  iapply (Rounds.wp_wait_rest_token 𝒱₀ ER (Rd X) (d : Thread nD τ) none (κ := K (d, some (false, t)))
      (wpE_waitDma2_eq 𝒱₀ (d : Thread nD τ) none Set.univ) (Set.mem_univ _) () (O := owed d (rest (n + 1))) (W := W) (R := 0) (m := 0) (T := ∅)
      (by rw [Nat.zero_add, hN]; exact (expect_xfer X d false t).symm)) $$ [Hc HO Ha]
  · isplitr; · iapply (inv_at X K (d, some (false, t))); iexact HR
    isplitl [Hc]; · rw [hN]; iexact Hc
    isplitl [HO]; · iexact HO
    isplitr
    · rw [owed_none ok.2.1, MayWait_zero]; iempintro
    iexact Ha
  iintro ⟨HO, Ha, -, Hp⟩
  ihave Hp := (Entails.of_eq (rest_snd X d t)) $$ Hp
  iapply h
  isplitr; · iexact HR
  isplitl [HO]; · iexists _; iexact HO
  isplitl [HT]; · iexact HT
  isplitl [HV]; · iexact HV
  isplitl [HS Ha]; · iapply HS; iexact Ha
  isplitr [HZ]
  · iapply (src_put X d ok)
    isplitl [Hp]; · iexact Hp
    iexact HX
  iexact HZ

end Cert.KernelIdealProof

end
-- ==== Proof.Body.lean ====
module

public import proofs.«01_k».proof.Proof.Steps

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XC F) (K : Dev nD × CK → ℕ)
variable (Z : sProp (MT nD τ sig Unit (Elt F) ℕ UU ℕ))

/-- The word of the other row. -/
abbrev yw (d : Dev nD) : BitVec 32 := BitVec.ofNat 32 (1 - yOf d)

/-! ## The handshake -/

/-- Who sends to device `d` by way `j`. -/
abbrev nb (j : Fin 3) (d : Dev nD) : Dev nD := if j = 0 then dvy d else if j = 1 then prv d else nxt d

/-- What device `d` owes when the signals `js` are still to give, -/
def owedH (d : Dev nD) : List (Fin 3) → CellTallies nD τ sig Unit
  | [] => owed d ops
  | j :: js => owedH d js + tallyAt (barC (nb j d)) () 1
/-- and what it gives with them. -/
def giveH (d : Dev nD) : List (Fin 3) → sProp 𝕄
  | [] => iprop(emp)
  | j :: js => iprop((dutyTok ER (barC (nb j d)) 0 j ∗ barP (nb j d) j) ∗ giveH d js)

/-- A device's own tokens of a transfer's two cells. -/
def tok0 (d : Dev nD) (t : T) : sProp 𝕄 := iprop(dutyTok ER (sndC d t) 0 0 ∗ dutyTok ER (rcvC (tgt d t) t) 0 0)
/-- What the handshake leaves alone. -/
def E0 (d : Dev nD) : sProp 𝕄 :=
  iprop(bigSep Finset.univ (rcvE (F := F) d ops) ∗ bigSep Finset.univ (sndE (F := F) d ops) ∗ Srcs X d ops ∗ Z)

/-- Device `d` with the signals `js` still to give. -/
def Hand (d : Dev nD) (js : List (Fin 3)) : sProp 𝕄 :=
  iprop(recs X K ∗ (∃ W, owes (d : Thread nD τ) (owedH d js) W) ∗ giveH d js
    ∗ (atPos ER (barC d) 0 ∅ 0 ∗ cred (tallyAt (barC d) () 3)) ∗ bigSep Finset.univ (tok0 (F := F) d) ∗ E0 X Z d)
/-- After the handshake: the barrier's round is over. -/
abbrev ZB (d : Dev nD) : sProp (MT nD τ sig Unit (Elt F) ℕ UU ℕ) := iprop(atPos ER (barC d) (0 + 1) ∅ 0 ∗ Z)

/-- A signal: the tiles it gives leave. -/
theorem wp_sig {d : Dev nD} {j : Fin 3} {js : List (Fin 3)} {c' : Dev nD} (hc : c'.val = (nb j d).val) {s : Sem sig} (hs : s = barS) {n : ℕ} (hn : n = 1)
    {α : Type} {Q : α → sProp 𝕄} {k : PUnit → Prog (TpuEff nD τ sig (Elt F) Λ₀ .tc) α}
    (h : Hand X K Z d js ⊢ wp frame (wpE (defs₀ (F := F)) 𝒱₀ (d : Thread nD τ) none) Set.univ (k ⟨⟩) Q) :
    Hand X K Z d (j :: js) ⊢ wp frame (wpE (defs₀ (F := F)) 𝒱₀ (d : Thread nD τ) none) Set.univ (.op (.semSignal (c' : Thread nD τ) s n) k) Q := by
  obtain rfl : c' = nb j d := Fin.ext hc
  subst hs hn
  unfold Hand at h ⊢
  unfold giveH
  iintro ⟨#HR, ⟨%W, HO⟩, ⟨⟨Ht, Hp⟩, HG⟩, HB, HT, HE⟩
  iapply (Rounds.wp_signal 𝒱₀ ER (Rd X) (d : Thread nD τ) none (dst := (nb j d : Thread nD τ)) (κ := K (nb j d, none)) (sem := barS) (r := 0)
      (d := j) (by rw [show ((nb j d : Thread nD τ), SemLoc.reg barS) = barC (nb j d) from rfl, duties_at]; exact Finset.mem_univ _) (amount_at X (nb j d, none) j) () (owedH d js) rfl (W := W))
    $$ [HO Ht Hp]
  · isplitr; · iapply (inv_at X K (nb j d, none)); iexact HR
    isplitl [HO]; · iexact HO
    isplitl [Ht]; · iexact Ht
    isplitl [Hp]; · iapply (Entails.of_eq (show barP (F := F) (nb j d) j = _ from (payload_at X (nb j d, none) j).symm)); iexact Hp
    iapply (reached_at X K (nb j d, none)); iexact HR
  iintro HO
  iapply h
  isplitr; · iexact HR
  isplitl [HO]; · iexists W; iexact HO
  isplitl [HG]; · iexact HG
  isplitl [HB]; · iexact HB
  isplitl [HT]; · iexact HT
  iexact HE

/-- The tiles of the three ways are those of all the transfers. -/
theorem ways_eq (Φ : T → sProp 𝕄) :
    bigSep Finset.univ (fun j : Fin 3 => bigSep Finset.univ fun t : T => if cls t = j then Φ t else iprop(emp)) = bigSep Finset.univ Φ := by
  rw [BI.bigSep_univ_comm]
  refine bigSep_congr fun t _ => ?_
  rw [BI.bigSep_erase (Finset.mem_univ (cls t)), if_pos rfl,
    bigSep_congr (s := Finset.univ.erase (cls t)) (fun j hj => if_neg (Finset.ne_of_mem_erase hj).symm),
    show bigSep (Finset.univ.erase (cls t)) (fun _ => (iprop(emp) : sProp 𝕄)) = iprop(emp) from BI.bigSep_emp_const _]
  exact equiv_iff.mp BI.sep_emp

/-- The target's tile and the two tokens are what issuing `t` needs. -/
theorem tok_one (d : Dev nD) (t : T) :
    iprop((∃ f : OC F, oPt fullShare (tgt d t) (blk d t) f) ∗ tok0 (F := F) d t) ⊢ tokE (F := F) d ops t := by
  rw [show tokE (F := F) d ops t = _ from if_pos (ops_all t).1]
  unfold tok0
  iintro ⟨Hf, Ht1, Ht2⟩
  isplitl [Ht1]; · iexact Ht1
  isplitl [Ht2]; · iexact Ht2
  iexact Hf

/-- What the neighbours give, with the tokens, is what issuing all transfers needs. -/
theorem tok_open (d : Dev nD) :
    iprop((bigSep Finset.univ fun j : Fin 3 => barP (F := F) d j) ∗ bigSep Finset.univ (tok0 (F := F) d)) ⊢ bigSep Finset.univ (tokE (F := F) d ops) := by
  unfold barP
  rw [ways_eq (fun t : T => iprop(∃ f : OC F, oPt fullShare (tgt d t) (blk d t) f)), ← bigSep_sep']
  exact bigSep_mono fun t _ => tok_one d t

/-- The wait for the three neighbours: the tiles they give arrive. -/
theorem wp_bar {d : Dev nD} {s : Sem sig} (hs : s = barS) {n : ℕ} (hn : n = 3)
    {α : Type} {Q : α → sProp 𝕄} {k : PUnit → Prog (TpuEff nD τ sig (Elt F) Λ₀ .tc) α}
    (h : St X K (ZB Z d) d 0 ⊢ wp frame (wpE (defs₀ (F := F)) 𝒱₀ (d : Thread nD τ) none) Set.univ (k ⟨⟩) Q) :
    Hand X K Z d [] ⊢ wp frame (wpE (defs₀ (F := F)) 𝒱₀ (d : Thread nD τ) none) Set.univ (.op (.semWait s n) k) Q := by
  subst hs hn
  unfold St at h
  unfold Hand E0 owedH
  iintro ⟨#HR, ⟨%W, HO⟩, -, ⟨Ha, Hc⟩, HT, HV, HS, HX, HZ⟩
  iapply (Rounds.wp_wait_rest_token 𝒱₀ ER (Rd X) (d : Thread nD τ) none (κ := K (d, none))
      (wpE_semWait_eq 𝒱₀ (d : Thread nD τ) none Set.univ) (Set.mem_univ _) () (O := owed d ops) (W := W) (R := 0) (m := 0) (T := ∅)
      (by rw [show ((d : Thread nD τ), SemLoc.reg barS) = barC d from rfl, expect_bar])) $$ [Hc HO Ha]
  · isplitr; · iapply (inv_at X K (d, none)); iexact HR
    isplitl [Hc]; · iexact Hc
    isplitl [HO]; · iexact HO
    isplitr
    · iapply (mayWait_owed (F := F) d ops (.reg barS) (fun u hu => by
        rw [show kind (.reg barS) = some none from kind_csem none]; show 1 < lvlR u; unfold lvlR; split <;> [decide; split <;> decide]))
      iapply (levs_at X K); iexact HR
    iexact Ha
  iintro ⟨HO, Ha, -, Hp⟩
  ihave Hp := (Entails.of_eq (rest_bar X d)) $$ Hp
  iapply h
  isplitr; · iexact HR
  isplitl [HO]; · iexists _; iexact HO
  isplitl [HT Hp]
  · iapply (tok_open (F := F) d); isplitl [Hp]; · iexact Hp
    iexact HT
  isplitl [HV]; · iexact HV
  isplitl [HS]; · iexact HS
  isplitl [HX]; · iexact HX
  isplitl [Ha]; · iexact Ha
  iexact HZ

/-! ## The whole branch -/

/-- A program run in two parts: the first establishes what the second needs. -/
theorem wp_part {d : Dev nD} {P P' : sProp 𝕄} {α β : Type} {p : Prog (TpuEff nD τ sig (Elt F) Λ₀ .tc) β} {k : β → Prog (TpuEff nD τ sig (Elt F) Λ₀ .tc) α} {Q : α → sProp 𝕄}
    (h1 : P ⊢ wp frame (wpE (defs₀ (F := F)) 𝒱₀ (d : Thread nD τ) none) Set.univ p (fun _ => P'))
    (h2 : ∀ a, P' ⊢ wp frame (wpE (defs₀ (F := F)) 𝒱₀ (d : Thread nD τ) none) Set.univ (k a) Q) :
    P ⊢ wp frame (wpE (defs₀ (F := F)) 𝒱₀ (d : Thread nD τ) none) Set.univ (p >>= k) Q := by
  rw [wp_bind]; exact BI.Entails.trans h1 (wp_mono _ _ _ h2)

/-- A program that returns at once needs only its postcondition. -/
theorem wp_done {d : Dev nD} {P : sProp 𝕄} {β : Type} (a : β) :
    P ⊢ wp frame (wpE (defs₀ (F := F)) 𝒱₀ (d : Thread nD τ) none) Set.univ (.ret a) (fun _ => P) := by
  rw [wp_ret]; exact fupd_intro

attribute [local irreducible] St Hand wp

set_option maxHeartbeats 40000000 in
/-- The handshake and all the transfers up to the last waits. -/
theorem wp_main {d : Dev nD} (k0_hw1 : k0_chk1 d (yw d)) (k0_h2 : k0_cond2 d (yw d) = 1#1) (v2 v5 v8 : BitVec 32) h0 h1 h2 :
    Hand X K Z d [0, 2, 1] ⊢ wp frame (wpE (defs₀ (F := F)) 𝒱₀ (d : Thread nD τ) none) Set.univ
      (k0_part69 xM h0 pM h1 oM h2 cc0_scratch0 cc0_scratch1 cc0_scratch2 cc0_scratch3 cc0_scratch4 cc0_scratch5 cc0_scratch6 d v2 v5 v8 (yw d) k0_hw1
        (SemArray.scalar (sig.barrier 0 rfl)) k0_h2) (fun _ => St X K (ZB Z d) d 151) := by
  rw [k0_part69_eq_skeleton]; unfold k0_part69_skel
  refine wp_part (P' := Hand X K Z d [0, 2, 1]) ?_ fun _ => ?_
  · rw [k0_part1_eq_skeleton]; exact wp_done _
  refine wp_part (P' := Hand X K Z d [0, 2, 1]) ?_ fun _ => ?_
  · rw [k0_part2_eq_skeleton]; exact wp_done _
  refine wp_part (P' := Hand X K Z d [1]) ?_ fun _ => ?_
  · rw [k0_part3_eq_skeleton]; unfold k0_part3_skel
    simp only [semSignalWord, semWaitWord, Prog.lift, Prog.bind_op, Prog.bind_ret, Prog.pure_eq_ret]
    refine wp_sig X K Z (by dsimp only; clear * - d; revert d; decide +kernel) rfl rfl ?_
    refine wp_sig X K Z (by dsimp only; clear * - d; revert d; decide +kernel) rfl rfl ?_
    exact wp_done _
  refine wp_part (P' := St X K (ZB Z d) d 1) ?_ fun _ => ?_
  · rw [k0_part4_eq_skeleton]; unfold k0_part4_skel
    simp only [semSignalWord, semWaitWord, Prog.lift, Prog.bind_op, Prog.bind_ret, Prog.pure_eq_ret]
    refine wp_sig X K Z (by dsimp only; clear * - d; revert d; decide +kernel) rfl rfl ?_
    refine wp_bar X K Z rfl rfl ?_
    repeat (first
        | (refine wp_send X K (ZB Z d) ?_ ?_ (oT_eq ?_) ?_ ?_ ?_ ?_
           · decide +kernel
           · first
             | (refine Or.inl ⟨?_, xT_eq ?_⟩; (decide +kernel); (clear * - d; revert d; decide +kernel))
             | (refine Or.inr ⟨?_, oT_eq ?_⟩; (decide +kernel); (clear * - d; revert d; decide +kernel))
           · clear * - d; revert d; decide +kernel
           · dsimp only; clear * - d; revert d; decide +kernel
           · decide +kernel
           · decide +kernel)
        | (refine wp_wr X K (ZB Z d) (by decide +kernel) (by decide +kernel) ?_ ?_; · rfl)
        | (refine wp_ws X K (ZB Z d) (by decide +kernel) (by decide +kernel) ?_ ?_; · rfl))
    exact wp_done _
  repeat
    apply wp_part
    · simp only [k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, Prog.lift, Prog.bind_op, Prog.bind_ret, Prog.pure_eq_ret, Nat.reduceAdd]
      repeat (first
          | (refine wp_send X K (ZB Z d) ?_ ?_ (oT_eq ?_) ?_ ?_ ?_ ?_
             · decide +kernel
             · first
               | (refine Or.inl ⟨?_, xT_eq ?_⟩; (decide +kernel); (clear * - d; revert d; decide +kernel))
               | (refine Or.inr ⟨?_, oT_eq ?_⟩; (decide +kernel); (clear * - d; revert d; decide +kernel))
             · clear * - d; revert d; decide +kernel
             · dsimp only; clear * - d; revert d; decide +kernel
             · decide +kernel
             · decide +kernel)
          | (refine wp_wr X K (ZB Z d) (by decide +kernel) (by decide +kernel) ?_ ?_; · rfl)
          | (refine wp_ws X K (ZB Z d) (by decide +kernel) (by decide +kernel) ?_ ?_; · rfl))
      exact wp_done _
    intro _
  exact wp_done _

end Cert.KernelIdealProof

end
-- ==== Proof.Fin.lean ====
module

public import proofs.«01_k».proof.Proof.Body

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XC F) (K : Dev nD × CK → ℕ)
variable (Z : sProp (MT nD τ sig Unit (Elt F) ℕ UU ℕ))

/-! ## The body at the exchanging words -/

abbrev PC (F : FTy → Type) [FloatOps F] : Type := (cc0_stg1_0 : Ref sig .tc).ty.Contents (Elt F)
/-- The words' buffer of device `d`, beside what else the transfers leave alone. -/
def PZ (d : Dev nD) (g : PC F) : sProp (MT nD τ sig Unit (Elt F) ℕ UU ℕ) := iprop((((d : Thread nD τ).loc cc0_stg1_0) ↦{fullShare} g) ∗ Z)

/-- At the word of the other row the named devices exist, -/
theorem chk_ok (d : Dev nD) : k0_chk1 d (yw d) := by revert d; decide +kernel
/-- and the kernel takes the exchange. -/
theorem cond_ok (d : Dev nD) : k0_cond2 d (yw d) = 1#1 := by revert d; decide +kernel

/-- The words' buffer joins what the transfers leave alone. -/
theorem hand_put (d : Dev nD) (g : PC F) (js : List (Fin 3)) :
    iprop((((d : Thread nD τ).loc cc0_stg1_0) ↦{fullShare} g) ∗ Hand X K Z d js) ⊢ Hand X K (PZ Z d g) d js := by
  unfold Hand E0 PZ
  iintro ⟨Hp, HR, HO, HG, HB, HT, HV, HS, HX, HZ⟩
  isplitl [HR]; · iexact HR
  isplitl [HO]; · iexact HO
  isplitl [HG]; · iexact HG
  isplitl [HB]; · iexact HB
  isplitl [HT]; · iexact HT
  isplitl [HV]; · iexact HV
  isplitl [HS]; · iexact HS
  isplitl [HX]; · iexact HX
  isplitl [Hp]; · iexact Hp
  iexact HZ

/-- Reading the words' buffer. -/
theorem wp_pload {d : Dev nD} {g : PC F} {P : sProp 𝕄} {r : LoadRect S2} {hl : (pM : Memref sig .tc .smem S2 .i32).view.LoadsAt r} {α : Type} {Q : α → sProp 𝕄}
    {k : (r.shape.Idx → Elt F .i32) → Prog (TpuEff nD τ sig (Elt F) Λ₀ .tc) α}
    (h : iprop((((d : Thread nD τ).loc cc0_stg1_0) ↦{fullShare} g) ∗ P) ⊢ wp frame (wpE (defs₀ (F := F)) 𝒱₀ (d : Thread nD τ) none) Set.univ (k ((pM : Memref sig .tc .smem S2 .i32).view.readAt (Elt F) r g)) Q) :
    iprop((((d : Thread nD τ).loc cc0_stg1_0) ↦{fullShare} g) ∗ P) ⊢ wp frame (wpE (defs₀ (F := F)) 𝒱₀ (d : Thread nD τ) none) Set.univ (.op (.load pM r hl) k) Q := by
  iintro ⟨Hp, HP⟩
  iapply (wp_load 𝒱₀ (d : Thread nD τ) none Set.univ (m := pM) (Finset.subset_univ _)) $$ Hp; iintro Hp
  iapply h
  isplitl [Hp]; · iexact Hp
  iexact HP

/-- A device reads the word of its own row. -/
theorem off1_eq : ∀ d : Dev nD, k0_off1 d 0 = yOf d := by decide +kernel

/-- The word read. -/
theorem word_eq (d : Dev nD) (g : PC F) (w : BitVec 32) (hg : ∀ i, (i 0).val = yOf d → g i = w) (inb) (h : 0 < S1.numel) :
    (pM : Memref sig .tc .smem S2 .i32).view.readAt (Elt F) (Rect.unit (s := S2) (k0_off1 d) S1.size inb).toLoadRect g (Shape.Idx.first h) = w := by
  refine hg _ ?_
  refine Eq.trans ?_ (off1_eq d)
  show k0_off1 d 0 + 1 * 0 = k0_off1 d 0
  omega

attribute [local irreducible] St Hand wp

set_option maxHeartbeats 4000000 in
/-- The whole body on a device told to exchange. -/
theorem wp_body (d : Dev nD) (g : PC F) (hg : ∀ i, (i 0).val = yOf d → g i = yw d) h0 h1 h2 :
    iprop((((d : Thread nD τ).loc cc0_stg1_0) ↦{fullShare} g) ∗ Hand X K Z d [0, 2, 1]) ⊢ wp frame (wpE (defs₀ (F := F)) 𝒱₀ (d : Thread nD τ) none) Set.univ
      (cc0_body xM h0 pM h1 oM h2 cc0_scratch0 cc0_scratch1 cc0_scratch2 cc0_scratch3 cc0_scratch4 cc0_scratch5 cc0_scratch6)
      (fun _ => St X K (ZB (PZ Z d g) d) d 192) := by
  rw [cc0_body_eq_skeleton]; unfold cc0_body_skel
  simp only [smemLoad, smemLoadElt, Prog.lift, Prog.bind_op, Prog.bind_ret, Prog.pure_eq_ret, Prog.bind_assoc, wp_deviceId]
  refine wp_pload ?_
  rw [word_eq d g (yw d) hg]
  refine BI.Entails.trans (hand_put X K Z d g _) ?_
  refine BI.Entails.trans ?_ (wp_assume 𝒱₀ (d : Thread nD τ) none Set.univ (chk_ok d))
  rw [if_neg (show ¬ _ from by clear * - d; revert d; decide +kernel), dif_pos (cond_ok d)]
  refine wp_part (wp_main X K (PZ Z d g) (chk_ok d) (cond_ok d) _ _ _ h0 h1 h2) fun _ => ?_
  repeat
    apply wp_part
    · simp only [k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, Prog.lift, Prog.bind_op, Prog.bind_ret, Prog.pure_eq_ret, Nat.reduceAdd]
      repeat (first
          | (refine wp_send X K (ZB (PZ Z d g) d) ?_ ?_ (oT_eq ?_) ?_ ?_ ?_ ?_
             · decide +kernel
             · first
               | (refine Or.inl ⟨?_, xT_eq ?_⟩; (decide +kernel); (clear * - d; revert d; decide +kernel))
               | (refine Or.inr ⟨?_, oT_eq ?_⟩; (decide +kernel); (clear * - d; revert d; decide +kernel))
             · clear * - d; revert d; decide +kernel
             · dsimp only; clear * - d; revert d; decide +kernel
             · decide +kernel
             · decide +kernel)
          | (refine wp_wr X K (ZB (PZ Z d g) d) (by decide +kernel) (by decide +kernel) ?_ ?_; · rfl)
          | (refine wp_ws X K (ZB (PZ Z d g) d) (by decide +kernel) (by decide +kernel) ?_ ?_; · rfl))
      exact wp_done _
    intro _
  repeat (first
      | (refine wp_send X K (ZB (PZ Z d g) d) ?_ ?_ (oT_eq ?_) ?_ ?_ ?_ ?_
         · decide +kernel
         · first
           | (refine Or.inl ⟨?_, xT_eq ?_⟩; (decide +kernel); (clear * - d; revert d; decide +kernel))
           | (refine Or.inr ⟨?_, oT_eq ?_⟩; (decide +kernel); (clear * - d; revert d; decide +kernel))
         · clear * - d; revert d; decide +kernel
         · dsimp only; clear * - d; revert d; decide +kernel
         · decide +kernel
         · decide +kernel)
      | (refine wp_wr X K (ZB (PZ Z d g) d) (by decide +kernel) (by decide +kernel) ?_ ?_; · rfl)
      | (refine wp_ws X K (ZB (PZ Z d g) d) (by decide +kernel) (by decide +kernel) ?_ ?_; · rfl))
  exact wp_done _

end Cert.KernelIdealProof

end
-- ==== Proof.Ends.lean ====
module

public import proofs.«01_k».proof.Proof.Fin

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XC F) (K : Dev nD × CK → ℕ)
variable (Z : sProp (MT nD τ sig Unit (Elt F) ℕ UU ℕ))

/-! ## From the buffers to the handshake -/

/-- A family over a device's cells: the barrier's, the sources', the landings'. -/
theorem bigSep_CK (Φ : CK → sProp 𝕄) :
    bigSep Finset.univ Φ = iprop(Φ none ∗ (bigSep Finset.univ fun t : T => Φ (some (false, t))) ∗ (bigSep Finset.univ fun t : T => Φ (some (true, t)))) := by
  rw [BI.bigSep_erase (Finset.mem_univ (none : CK)),
    show (Finset.univ.erase (none : CK)) = Finset.univ.map Function.Embedding.some from by
      ext k; rcases k with _ | k <;> simp,
    bigSep_map, bigSep_univ_prod,
    bigSep_univ_eq_bigSepL [false, true] (by decide) (by decide)]
  rfl

/-- The landing tiles of a device are all its tiles. -/
theorem tiles_lnd (d : Dev nD) (Φ : T → sProp 𝕄) : (bigSep Finset.univ fun t : T => Φ (lnd d t)) = bigSep Finset.univ Φ :=
  (bigSep_univ_equiv (Equiv.ofBijective (lnd d) (lnd_bijective d)) Φ).symm

/-- The neighbour of way `j` sends to this device by the transfers of that way, the tiles that land here. -/
theorem nb_tgt : ∀ (d : Dev nD) (j : Fin 3) (t : T), cls t = j → tgt (nb j d) t = d ∧ blk (nb j d) t = lnd d t := by decide +kernel

/-- The tiles a device gives with its signal of way `j`. -/
theorem barP_nb (d : Dev nD) (j : Fin 3) :
    barP (F := F) (nb j d) j = bigSep Finset.univ fun t : T => if cls t = j then iprop(∃ f : OC F, oPt fullShare d (lnd d t) f) else iprop(emp) := by
  unfold barP
  refine bigSep_congr fun t _ => ?_
  by_cases h : cls t = j
  · rw [if_pos h, if_pos h, (nb_tgt d j t h).1, (nb_tgt d j t h).2]
  · rw [if_neg h, if_neg h]

/-- A tile with known contents is a tile with some contents. -/
theorem some_tile (d : Dev nD) (t : T) (f : OC F) : oPt fullShare d t f ⊢ iprop(∃ f : OC F, oPt fullShare d t f) := by
  iintro H; iexists f; iexact H

/-- A device's whole result buffer, given out by the three ways. -/
theorem out_give (d : Dev nD) (f : OC F) :
    (((d : Thread nD τ).loc cc0_stg2_0) ↦{fullShare} f : sProp 𝕄) ⊢ bigSep Finset.univ fun j : Fin 3 => barP (F := F) (nb j d) j := by
  rw [o_tiles, bigSep_congr (s := Finset.univ) (fun (j : Fin 3) _ => barP_nb (F := F) d j),
    ways_eq (fun t : T => iprop(∃ f : OC F, oPt fullShare d (lnd d t) f)), tiles_lnd d (fun t : T => iprop(∃ f : OC F, oPt (F := F) fullShare d t f))]
  exact bigSep_mono fun t _ => some_tile d t f

/-- What a device pays with: its neighbours' barrier duties, its transfers'. -/
def payToks (d : Dev nD) : sProp 𝕄 :=
  iprop((bigSep Finset.univ fun j : Fin 3 => dutyTok ER (barC (nb j d)) 0 j) ∗ bigSep Finset.univ (tok0 (F := F) d))

/-- A family over three, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- At the start a landing side's round is ahead, with its credit. -/
theorem rcv_one (d : Dev nD) (t : T) :
    iprop(atPos ER (rcvC d t) 0 ∅ 0 ∗ cred (tallyAt (rcvC d t) () N)) ⊢ rcvE (F := F) d ops t := by
  rw [show rcvE (F := F) d ops t = _ from if_pos (ops_all t).2.1]
/-- At the start a source side's round is ahead. -/
theorem snd_one (d : Dev nD) (t : T) : (atPos ER (sndC d t) 0 ∅ 0 : sProp 𝕄) ⊢ sndE (F := F) d ops t := by
  rw [show sndE (F := F) d ops t = _ from if_pos (ops_all t).2.2, if_pos (ops_all t).1]
  iintro H; isplitl [H]; · iexact H
  iempintro
/-- At the start no landing is held. -/
theorem oE_ops (j : Fin 3) (d : Dev nD) : bigSep Finset.univ (oE X j d ops) = iprop(emp) := by
  rw [bigSep_congr (s := Finset.univ) (fun t _ => show oE X j d ops t = iprop(emp) from if_neg fun h => h.1 (ops_all t).2.1)]
  exact BI.bigSep_emp_const _
/-- At the start the operand's tiles are the whole buffer. -/
theorem xE_ops (d : Dev nD) : bigSep Finset.univ (xE X d ops) = (((d : Thread nD τ).loc cc0_stg0_0) ↦{fullShare} X d : sProp 𝕄) := by
  rw [bigSep_congr (s := Finset.univ) (fun t _ => show xE X d ops t = xPt fullShare d (lnd d t) (X d) from if_neg fun h => h.2.1 (ops_all t).1),
    tiles_lnd d (fun t : T => xPt fullShare d t (X d)), x_tiles]

/-- A device's state before the handshake, put together. -/
theorem hand_intro (d : Dev nD) (f : OC F) :
    iprop(recs X K ∗ (∃ W, owes (d : Thread nD τ) (owedH d [0, 2, 1]) W) ∗ (bigSep Finset.univ fun k : CK => atPos ER (kcell (d, k)) 0 ∅ 0)
        ∗ payToks (F := F) d ∗ cred (tallyAt (barC d) () 3) ∗ (bigSep Finset.univ fun t : T => cred (tallyAt (rcvC d t) () N))
        ∗ (((d : Thread nD τ).loc cc0_stg0_0) ↦{fullShare} X d) ∗ (((d : Thread nD τ).loc cc0_stg2_0) ↦{fullShare} f) ∗ Z)
      ⊢ Hand X K Z d [0, 2, 1] := by
  rw [bigSep_CK]
  unfold payToks Hand E0 Srcs
  rw [oE_ops, oE_ops, xE_ops, bigSep_fin3]
  unfold giveH giveH giveH giveH
  iintro ⟨#HR, HO, ⟨HaB, HaS, HaR⟩, ⟨⟨Ht0, Ht1, Ht2⟩, HT⟩, HcB, HcR, Hx, Ho, HZ⟩
  ihave Hg := (out_give (F := F) d f) $$ Ho
  ihave Hg := (Entails.of_eq (bigSep_fin3 _)) $$ Hg
  icases Hg with ⟨Hg0, Hg1, Hg2⟩
  isplitr; · iexact HR
  isplitl [HO]; · iexact HO
  isplitl [Ht0 Ht1 Ht2 Hg0 Hg1 Hg2]
  · isplitl [Ht0 Hg0]; · isplitl [Ht0] <;> iassumption
    isplitl [Ht2 Hg2]; · isplitl [Ht2] <;> iassumption
    isplitl [Ht1 Hg1]; · isplitl [Ht1] <;> iassumption
    iempintro
  isplitl [HaB HcB]; · isplitl [HaB] <;> iassumption
  isplitl [HT]; · iexact HT
  isplitl [HaR HcR]
  · iapply (show iprop((bigSep Finset.univ fun t : T => atPos ER (rcvC d t) 0 ∅ 0) ∗ (bigSep Finset.univ fun t : T => cred (tallyAt (rcvC d t) () N))) ⊢ bigSep Finset.univ (rcvE (F := F) d ops) from by
      rw [← bigSep_sep']; exact bigSep_mono fun t _ => rcv_one d t)
    isplitl [HaR] <;> iassumption
  isplitl [HaS]
  · iapply (show (bigSep Finset.univ fun t : T => (atPos ER (sndC d t) 0 ∅ 0 : sProp 𝕄)) ⊢ bigSep Finset.univ (sndE (F := F) d ops) from bigSep_mono fun t _ => snd_one d t)
    iexact HaS
  isplitl [Hx]
  · isplitl [Hx]; · iexact Hx
    isplitl <;> iempintro
  iexact HZ

/-! ## From the last operation to the buffers -/

/-- After 192 operations none is left. -/
theorem rest_end : rest 192 = [] := by rw [rest, List.drop_eq_nil_iff, ops_length]
/-- In the end the operand's tiles are the whole buffer again. -/
theorem xE_end (d : Dev nD) : bigSep Finset.univ (xE X d []) = (((d : Thread nD τ).loc cc0_stg0_0) ↦{fullShare} X d : sProp 𝕄) := by
  rw [bigSep_congr (s := Finset.univ) (fun t _ => show xE X d [] t = xPt fullShare d (lnd d t) (X d) from if_neg fun h => List.not_mem_nil h.2.2),
    tiles_lnd d (fun t : T => xPt fullShare d t (X d)), x_tiles]
/-- In the end the half of way `j` of every tile is held, with its final contents. -/
theorem oE_end (j : Fin 3) (d : Dev nD) : bigSep Finset.univ (oE X j d []) = bigSep Finset.univ fun t : T => oPt (shr j) d t (fin X d) := by
  rw [bigSep_congr (s := Finset.univ) (fun t _ => show oE X j d [] t = oPt (shr j) d (lnd d t) (fin X d) from if_pos ⟨List.not_mem_nil, fun u _ h => List.not_mem_nil h.2⟩),
    tiles_lnd d (fun t : T => oPt (shr j) d t (fin X d))]
/-- The two halves of every tile make up the result buffer. -/
theorem o_join (d : Dev nD) (f : OC F) :
    iprop((bigSep Finset.univ fun t : T => oPt (shr 1) d t f) ∗ (bigSep Finset.univ fun t : T => oPt (shr 2) d t f)) ⊢ (((d : Thread nD τ).loc cc0_stg2_0) ↦{fullShare} f : sProp 𝕄) := by
  rw [o_tiles, ← bigSep_sep']
  exact bigSep_mono fun t _ => (o_halves d t f).2

/-- A cell whose one round is over is closed: its counter reads zero. -/
theorem close_one (d : Dev nD) (k : CK) :
    iprop(recs X K ∗ atPos ER (kcell (d, k)) (0 + 1) ∅ 0) ⊢ |={Set.univ}=> (semVal (kcell (d, k)) 0 : sProp 𝕄) := by
  iintro ⟨#HR, Ha⟩
  iapply (Rounds.cell_close ER (Rd X) (κ := K (d, k)) (Set.mem_univ _) (fun h => h) (R := 0 + 1) (duties_later X (kcell (d, k))))
  isplitr; · iapply (inv_at X K (d, k)); iexact HR
  iexact Ha
/-- What is known to all may be used at every member of a family. -/
theorem with_recs {I : Type} [DecidableEq I] {S : Finset I} {Φ Ψ : I → sProp 𝕄} (h : ∀ i, iprop(recs X K ∗ Φ i) ⊢ Ψ i) :
    iprop(recs X K ∗ bigSep S Φ) ⊢ bigSep S Ψ :=
  (sep_mono_left (BI.bigSep_of_persistent S (recs X K))).trans (by rw [← bigSep_sep']; exact bigSep_mono fun i _ => h i)
/-- Once the rounds are over every cell's counter is zero and comes back. -/
theorem close_all (d : Dev nD) :
    iprop(recs X K ∗ bigSep Finset.univ fun k : CK => atPos ER (kcell (d, k)) (0 + 1) ∅ 0) ⊢ |={Set.univ}=> (bigSep Finset.univ fun k : CK => semVal (kcell (d, k)) 0 : sProp 𝕄) :=
  (with_recs X K fun k => close_one X K d k).trans (bigSep_fupd _ _)

/-- In the end every landing side's round is behind. -/
theorem rcvE_end (d : Dev nD) : bigSep Finset.univ (rcvE (F := F) d []) = bigSep Finset.univ fun t : T => atPos ER (rcvC d t) (0 + 1) ∅ 0 :=
  bigSep_congr fun t _ => if_neg List.not_mem_nil
/-- In the end every source side's round is behind. -/
theorem sndE_end (d : Dev nD) : bigSep Finset.univ (sndE (F := F) d []) = bigSep Finset.univ fun t : T => atPos ER (sndC d t) (0 + 1) ∅ 0 :=
  bigSep_congr fun t _ => if_neg List.not_mem_nil

/-- After the last operation: the buffers whole, every cell's counter at zero, nothing owed. -/
theorem st_elim (d : Dev nD) (g : PC F) :
    St X K (ZB (PZ Z d g) d) d 192 ⊢ |={Set.univ}=> iprop((∃ W, owes (d : Thread nD τ) 0 W) ∗ (((d : Thread nD τ).loc cc0_stg0_0) ↦{fullShare} X d)
      ∗ (((d : Thread nD τ).loc cc0_stg1_0) ↦{fullShare} g) ∗ (((d : Thread nD τ).loc cc0_stg2_0) ↦{fullShare} fin X d)
      ∗ (bigSep Finset.univ fun k : CK => semVal (kcell (d, k)) 0) ∗ Z) := by
  unfold St Srcs PZ
  rw [rest_end, xE_end, oE_end, oE_end, rcvE_end, sndE_end]
  iintro ⟨#HR, HO, -, HaR, HaS, ⟨Hx, Ho1, Ho2⟩, HaB, Hp, HZ⟩
  imod (close_all X K d) $$ [HaR HaS HaB] with Hz
  · isplitr; · iexact HR
    iapply (Entails.of_eq (bigSep_CK (fun k : CK => (atPos ER (kcell (d, k)) (0 + 1) ∅ 0 : sProp 𝕄))).symm)
    isplitl [HaB]; · iexact HaB
    isplitl [HaS] <;> iassumption
  imodintro
  isplitl [HO]; · iexact HO
  isplitl [Hx]; · iexact Hx
  isplitl [Hp]; · iexact Hp
  isplitl [Ho1 Ho2]
  · iapply (o_join d (fin X d)); isplitl [Ho1] <;> iassumption
  isplitl [Hz]; · iexact Hz
  iexact HZ

end Cert.KernelIdealProof

end
-- ==== Proof.Deal.lean ====
module

public import proofs.«01_k».proof.Proof.Ends

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → XC F)

/-! ## The launch's deal -/

/-- Different cells of a device have different semaphores. -/
theorem csem_injective : Function.Injective csem := fun a b h => Option.some.inj ((kind_csem a).symm.trans ((congrArg kind h).trans (kind_csem b)))
/-- Different cells of the mesh have different semaphores. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of the protocol; -/
def allCells : Finset (GSem nD τ sig) := Finset.univ.map ⟨kcell, kcell_injective⟩
abbrev tokOf (x : (Dev nD × CK) × Fin 3) : GSem nD τ sig × ℕ × Fin 3 := (kcell x.1, 0, x.2)
/-- Different duties have different tokens. -/
theorem tokOf_injective : Function.Injective tokOf := by
  rintro ⟨a, j⟩ ⟨b, j'⟩ h
  have h1 : a = b := kcell_injective (congrArg (fun g : GSem nD τ sig × ℕ × Fin 3 => g.1) h)
  have h2 : j = j' := congrArg (fun g : GSem nD τ sig × ℕ × Fin 3 => g.2.2) h
  rw [h1, h2]
/-- a token for every way of each. -/
def allToks : Finset (GSem nD τ sig × ℕ × Fin 3) := Finset.univ.map ⟨tokOf, tokOf_injective⟩
/-- The ghost state at launch: the staging copies' part and the protocol's. -/
def u₀ : UU := (initOf (Pipeline.cells cfgs cellOf_inj) (Pipeline.launchToks cfgs cellOf_inj), initOf allCells allToks)

/-- The tokens of a device's own cells. -/
def toks (c : Dev nD) : sProp 𝕄 := bigSep Finset.univ fun k : CK => bigSep Finset.univ fun j : Fin 3 => dutyTok ER (kcell (c, k)) 0 j
/-- A device's positions, and that its cells' rounds are open. -/
def spots (c : Dev nD) : sProp 𝕄 := bigSep Finset.univ fun k : CK => iprop(atPos ER (kcell (c, k)) 0 ∅ 0 ∗ reached ER (kcell (c, k)) 0)
/-- What the launch deals a device. -/
def G (c : Dev nD) : sProp 𝕄 := iprop((bigSep Finset.univ fun k : CK => roundState ER (Rd X) (kcell (c, k)) 0) ∗ spots (F := F) c ∗ toks (F := F) c)

/-- A family over all cells, device by device. -/
theorem over_cells (Φ : GSem nD τ sig → sProp 𝕄) : bigSep allCells Φ = bigSep Finset.univ fun c : Dev nD => bigSep Finset.univ fun k : CK => Φ (kcell (c, k)) := by
  unfold allCells; rw [bigSep_map, bigSep_univ_prod]; rfl
/-- All tokens, device by device. -/
theorem over_toks : bigSep allToks (fun x => (dutyTok ER x.1 x.2.1 x.2.2 : sProp 𝕄)) = bigSep Finset.univ fun c : Dev nD => toks (F := F) c := by
  unfold allToks toks; rw [bigSep_map, bigSep_univ_prod, bigSep_univ_prod]; rfl

/-- The launch's ghost state gives every device its deal. -/
theorem fund_all : BI.own (ER (initOf allCells allToks)) ⊢ (|==> bigSep Finset.univ (G X) : sProp 𝕄) := by
  iintro HX
  imod (Rounds.fund ER (Rd X) allCells allToks) $$ HX with ⟨Hst, Hr, Hat, Htok⟩
  imodintro
  ihave Hst := (Entails.of_eq (over_cells fun g => roundState ER (Rd X) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks (F := F))) $$ Htok
  unfold G spots; simp only [bigSep_sep']
  isplitl [Hst]; · iexact Hst
  isplitl [Hat Hr]
  · isplitl [Hat] <;> iassumption
  iexact Htok

/-- The one scoped semaphore the protocol does not use. -/
def spare (c : Dev nD) : sProp (MT nD τ sig Unit (Elt F) ℕ UU ℕ) := semVal ((c : Thread nD τ), osem none) 0

/-- The kernel's own semaphores at zero: the spare one, the source sides, the landing sides. -/
theorem ownSems0_eq (c : Dev nD) : (Pipeline.ownSems0 (Ix := Unit) (Name := ℕ) (U := UU) (Lvl := ℕ) (Val := Elt F) (τ := τ) osem c : sProp 𝕄)
    = iprop(spare (F := F) c ∗ (bigSep Finset.univ fun t : T => semVal (sndC c t) 0) ∗ (bigSep Finset.univ fun t : T => semVal (rcvC c t) 0)) := by
  unfold Pipeline.ownSems0; rw [bigSep_CK]; rfl
/-- The one unscoped semaphore is the barrier's. -/
theorem unscopedSems0_eq (c : Dev nD) : (unscopedSems0 c : sProp 𝕄) = semVal (barC c) 0 := by
  unfold unscopedSems0; rw [bigSep_eq_bigSepL_of_eq [SemLoc.reg barS] (by decide +kernel) (by decide +kernel)]; rfl
/-- All of a device's counters at zero are its cells' and the spare one's, -/
theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : CK => (semVal (kcell (c, k)) 0 : sProp 𝕄)) ∗ spare (F := F) c) := by
  rw [ownSems0_eq, unscopedSems0_eq, bigSep_CK]
  iintro ⟨⟨Hz, HS, HR⟩, HB⟩
  isplitl [HB HS HR]
  · isplitl [HB]; · iexact HB
    isplitl [HS] <;> iassumption
  iexact Hz
/-- and the other way round. -/
theorem sems_join (c : Dev nD) :
    iprop((bigSep Finset.univ fun k : CK => (semVal (kcell (c, k)) 0 : sProp 𝕄)) ∗ spare (F := F) c)
      ⊢ iprop(unscopedSems0 c ∗ Pipeline.ownSems0 (Ix := Unit) (Name := ℕ) (U := UU) (Lvl := ℕ) (Val := Elt F) (τ := τ) osem c) := by
  rw [ownSems0_eq, unscopedSems0_eq, bigSep_CK]
  iintro ⟨⟨HB, HS, HR⟩, Hz⟩
  isplitl [HB]; · iexact HB
  isplitl [Hz]; · iexact Hz
  isplitl [HS] <;> iassumption

/-- A device's cells opened: each gets an invariant. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : CK => iprop(∃ κ : ℕ, cellInv ER (Rd X) κ (kcell (c, k)))) ∗ spots (F := F) c ∗ toks (F := F) c ∗ spare (F := F) c) := by
  unfold G
  iintro ⟨Hos, Hus, Hst, Hat, Htok⟩
  ihave Hv := (sems_split (F := F) c) $$ [Hos Hus]
  · isplitl [Hos] <;> iassumption
  icases Hv with ⟨Hv, Hz⟩
  imod (show iprop((bigSep Finset.univ fun k : CK => semVal (kcell (c, k)) 0) ∗ bigSep Finset.univ fun k : CK => roundState ER (Rd X) (kcell (c, k)) 0)
      ⊢ (|={Set.univ}=> bigSep Finset.univ fun k : CK => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-- Every device is the neighbour of way `j` of exactly one. -/
theorem nb_bijective : ∀ j : Fin 3, Function.Bijective (nb j) := fun j => Finite.injective_iff_bijective.mp (by revert j; unfold Function.Injective; decide +kernel)
abbrev nbE (j : Fin 3) : Dev nD ≃ Dev nD := Equiv.ofBijective (nb j) (nb_bijective j)
abbrev tgtE (t : T) : Dev nD ≃ Dev nD := ⟨fun c => tgt c t, fun c => sdr c t, fun c => sdr_tgt c t, fun c => tgt_sdr c t⟩

/-- The tokens of a device's cells: three of the barrier, one of each source side, one of each landing side. -/
theorem toks_own (c : Dev nD) : toks (F := F) c ⊢ iprop((bigSep Finset.univ fun j : Fin 3 => dutyTok ER (barC c) 0 j)
    ∗ (bigSep Finset.univ fun t : T => dutyTok ER (sndC c t) 0 0) ∗ (bigSep Finset.univ fun t : T => dutyTok ER (rcvC c t) 0 0)) := by
  unfold toks; rw [bigSep_CK]
  have h (b : Bool) : (bigSep Finset.univ fun t : T => bigSep Finset.univ fun j : Fin 3 => (dutyTok ER (kcell (c, some (b, t))) 0 j : sProp 𝕄))
      ⊢ bigSep Finset.univ fun t : T => dutyTok ER (kcell (c, some (b, t))) 0 0 := bigSep_mono fun t _ => bigSep_elim (Finset.mem_univ (0 : Fin 3))
  exact sep_mono_right ((sep_mono_left (h false)).trans (sep_mono_right (h true)))

/-- The barriers' tokens, counted by the device that pays instead of the one that waits. -/
theorem bars_around : (bigSep Finset.univ fun c : Dev nD => bigSep Finset.univ fun j : Fin 3 => (dutyTok ER (barC c) 0 j : sProp 𝕄))
    = bigSep Finset.univ fun c : Dev nD => bigSep Finset.univ fun j : Fin 3 => dutyTok ER (barC (nb j c)) 0 j := by
  rw [BI.bigSep_univ_comm, BI.bigSep_univ_comm (fun (c : Dev nD) (j : Fin 3) => (dutyTok ER (barC (nb j c)) 0 j : sProp 𝕄))]
  exact bigSep_congr fun j _ => bigSep_univ_equiv (nbE j) (fun c : Dev nD => (dutyTok ER (barC c) 0 j : sProp 𝕄))
/-- The landings' tokens, counted by the sender instead of the receiver. -/
theorem rcvs_around : (bigSep Finset.univ fun c : Dev nD => bigSep Finset.univ fun t : T => (dutyTok ER (rcvC c t) 0 0 : sProp 𝕄))
    = bigSep Finset.univ fun c : Dev nD => bigSep Finset.univ fun t : T => dutyTok ER (rcvC (tgt c t) t) 0 0 := by
  rw [BI.bigSep_univ_comm, BI.bigSep_univ_comm (fun (c : Dev nD) (t : T) => (dutyTok ER (rcvC (tgt c t) t) 0 0 : sProp 𝕄))]
  exact bigSep_congr fun t _ => bigSep_univ_equiv (tgtE t) (fun c : Dev nD => (dutyTok ER (rcvC c t) 0 0 : sProp 𝕄))

/-- The tokens dealt to the devices that pay with them. -/
theorem toks_around : (bigSep Finset.univ fun c : Dev nD => toks (F := F) c) ⊢ bigSep Finset.univ fun c : Dev nD => payToks (F := F) c := by
  refine BI.Entails.trans (bigSep_mono fun c _ => toks_own c) ?_
  unfold payToks tok0
  rw [bigSep_sep', bigSep_sep', bigSep_sep', bars_around, rcvs_around, ← bigSep_sep' (Φ := fun c : Dev nD => bigSep Finset.univ fun t : T => (dutyTok ER (sndC c t) 0 0 : sProp 𝕄))]
  refine sep_mono_right (Entails.of_eq (bigSep_congr fun c _ => ?_))
  rw [← bigSep_sep']

/-- Every cell's invariant, and that its round is open. -/
def records (K : Dev nD × CK → ℕ) : sProp 𝕄 :=
  iprop((bigSep Finset.univ fun ck : Dev nD × CK => cellInv ER (Rd X) (K ck) (kcell ck)) ∗ bigSep Finset.univ fun ck : Dev nD × CK => reached ER (kcell ck) 0)
instance records_persistent (K : Dev nD × CK → ℕ) : BI.Persistent (records X K) := by unfold records; infer_instance
/-- What is a device's alone. -/
def linear (c : Dev nD) : sProp 𝕄 := iprop((bigSep Finset.univ fun k : CK => atPos ER (kcell (c, k)) 0 ∅ 0) ∗ payToks (F := F) c ∗ spare (F := F) c)
/-- What the global step makes of the deal. -/
def G' (c : Dev nD) : sProp 𝕄 := iprop(∃ K, records X K ∗ linear (F := F) c)

/-- The invariants with a device's own part are what its body starts from. -/
theorem ghost_intro (K : Dev nD × CK → ℕ) (c : Dev nD) : iprop(records X K ∗ linear (F := F) c) ⊢ G' X c := by
  unfold G'; iintro H; iexists K; iexact H
/-- The invariants may be used at every device. -/
theorem with_records (K : Dev nD × CK → ℕ) {Φ Ψ : Dev nD → sProp 𝕄} (h : ∀ i, iprop(records X K ∗ Φ i) ⊢ Ψ i) :
    iprop(records X K ∗ bigSep Finset.univ Φ) ⊢ bigSep Finset.univ Ψ :=
  (sep_mono_left (BI.bigSep_of_persistent Finset.univ (records X K))).trans (by rw [← bigSep_sep']; exact bigSep_mono fun i _ => h i)

/-- All devices' positions, and all that their rounds are open, apart. -/
theorem spots_split : (bigSep Finset.univ fun c : Dev nD => spots (F := F) c)
    = iprop((bigSep Finset.univ fun c : Dev nD => bigSep Finset.univ fun k : CK => (atPos ER (kcell (c, k)) 0 ∅ 0 : sProp 𝕄))
        ∗ bigSep Finset.univ fun ck : Dev nD × CK => reached ER (kcell ck) 0) := by
  unfold spots
  rw [bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]

/-- The devices' opened cells, regrouped: the invariants to all, the tokens to those that pay with them. -/
theorem regroup :
    (bigSep Finset.univ fun c : Dev nD => iprop((bigSep Finset.univ fun k : CK => iprop(∃ κ : ℕ, cellInv ER (Rd X) κ (kcell (c, k)))) ∗ spots (F := F) c ∗ toks (F := F) c ∗ spare (F := F) c) : sProp 𝕄)
      ⊢ bigSep Finset.univ (G' X) := by
  rw [bigSep_sep', bigSep_sep', bigSep_sep', spots_split, ← bigSep_univ_prod (fun ck : Dev nD × CK => iprop(∃ κ : ℕ, cellInv ER (Rd X) κ (kcell ck)))]
  iintro ⟨HI, ⟨Hat, #HR⟩, Htok, Hz⟩
  ihave HK := (BI.bigSep_exists_pi Finset.univ (fun (ck : Dev nD × CK) (κ : ℕ) => (cellInv ER (Rd X) κ (kcell ck) : sProp 𝕄))) $$ HI
  icases HK with ⟨%K, #HI⟩
  ihave Htk := (toks_around (F := F)) $$ Htok
  iapply (with_records X K fun c => ghost_intro X K c)
  isplitr
  · unfold records; isplitl; · iexact HI
    iexact HR
  · unfold linear; simp only [bigSep_sep']
    isplitl [Hat]; · iexact Hat
    isplitl [Htk]; · iexact Htk
    iexact Hz

/-- The global step: every device's cells opened at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch's credit -/

abbrev O₀ (d : Dev nD) : CellTallies nD τ sig Unit := owedH d [0, 2, 1]
/-- What a device waits for. -/
def due (d : Dev nD) : CellTallies nD τ sig Unit := tallyAt (barC d) () 3 + ∑ t : T, tallyAt (rcvC d t) () N

/-- What is owed, transfer by transfer. -/
theorem owed_sum (d : Dev nD) : ∀ R : List Op, owed d R = ∑ t : T, R.count (.send t) • (tallyAt (rcvC (tgt d t) t) () N : CellTallies nD τ sig Unit)
  | [] => by simp [owed]
  | .send u :: R => by
    rw [owed_send, owed_sum d R, ← Finset.sum_erase_add _ _ (Finset.mem_univ u), ← Finset.sum_erase_add (a := u) Finset.univ (fun t : T => (Op.send u :: R).count (.send t) • (tallyAt (rcvC (tgt d t) t) () N : CellTallies nD τ sig Unit)) (Finset.mem_univ u),
      List.count_cons_self, add_assoc, ← succ_nsmul]
    congr 1
    refine Finset.sum_congr rfl fun t ht => ?_
    rw [List.count_cons_of_ne (fun h => (Finset.ne_of_mem_erase ht) (Op.send.inj h).symm)]
  | .wr u :: R => by
    rw [owed_wr, owed_sum d R]; refine Finset.sum_congr rfl fun t _ => ?_
    rw [List.count_cons_of_ne (fun h => by cases h)]
  | .ws u :: R => by
    rw [owed_ws, owed_sum d R]; refine Finset.sum_congr rfl fun t _ => ?_
    rw [List.count_cons_of_ne (fun h => by cases h)]
/-- Every transfer is issued once. -/
theorem ops_once : ∀ t : T, ops.count (.send t) = 1 := by decide +kernel
/-- Before the first operation every transfer's landing is owed once. -/
theorem owed_ops (d : Dev nD) : owed d ops = ∑ t : T, (tallyAt (rcvC (tgt d t) t) () N : CellTallies nD τ sig Unit) := by
  rw [owed_sum]; exact Finset.sum_congr rfl fun t _ => by rw [ops_once, one_smul]

/-- All that is owed is all that is waited for. -/
theorem sum_due : (∑ d, O₀ d) = ∑ d, due d := by
  have hb (j : Fin 3) : (∑ d : Dev nD, (tallyAt (barC (nb j d)) () 1 : CellTallies nD τ sig Unit)) = ∑ d, tallyAt (barC d) () 1 :=
    Equiv.sum_comp (nbE j) fun d => (tallyAt (barC d) () 1 : CellTallies nD τ sig Unit)
  have hr : (∑ d : Dev nD, ∑ t : T, (tallyAt (rcvC (tgt d t) t) () N : CellTallies nD τ sig Unit)) = ∑ d : Dev nD, ∑ t : T, tallyAt (rcvC d t) () N := by
    rw [Finset.sum_comm, Finset.sum_comm (f := fun (d : Dev nD) (t : T) => (tallyAt (rcvC d t) () N : CellTallies nD τ sig Unit))]
    exact Finset.sum_congr rfl fun t _ => Equiv.sum_comp (tgtE t) fun d => (tallyAt (rcvC d t) () N : CellTallies nD τ sig Unit)
  have e (d : Dev nD) : (tallyAt (barC d) () 3 : CellTallies nD τ sig Unit) = tallyAt (barC d) () 1 + tallyAt (barC d) () 1 + tallyAt (barC d) () 1 := by
    rw [tallyAt_add, tallyAt_add]
  unfold O₀ due owedH owedH owedH owedH
  simp only [owed_ops, e, Finset.sum_add_distrib, hb, hr]
  ac_rfl

/-- What is due to device `d` is due on its own cells. -/
theorem due_on (d : Dev nD) (g : GSem nD τ sig) (h : due d g ≠ 0) : g.1 = (d : Thread nD τ) := by
  by_contra hg
  refine h ?_
  unfold due
  rw [Pi.add_apply, Finset.sum_apply, tallyAt_ne_cell (fun e => hg (by rw [e])), Finset.sum_eq_zero (fun t _ => tallyAt_ne_cell (fun e => hg (by rw [e])) _ _), add_zero]

/-- The launch's credits: three units of the barrier, and every landing's. -/
theorem creds (c : Dev nD) :
    (Pipeline.launchCred O₀ c : sProp 𝕄) ⊢ iprop(cred (tallyAt (barC c) () 3) ∗ bigSep Finset.univ fun t : T => cred (tallyAt (rcvC c t) () N)) := by
  rw [Pipeline.launchCred_of_sum O₀ due sum_due due_on c]
  unfold due
  rw [← Pipeline.cred_finsetSum]
  exact (cred_add _ _).1

end Cert.KernelIdealProof

end
-- ==== Proof.Launch.lean ====
module

public import proofs.«01_k».proof.Proof.Deal
public import Idealize.ShloMosaic.Lib.Pipeline.ValueKit.Geometry
public import Idealize.ShloMosaic.Lib.Pipeline.CollectiveSegs

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch, for any body that keeps the operands and leaves `R` -/

/-- The memory at launch. -/
def s₀ : MemSt nD τ sig (Elt F) := ⟨m, fun _ => 0, ρ⟩

/-- The grid has one step. -/
theorem cfg0_N : cfg0.N = 1 := by decide
/-- That step. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- The operand as staged; -/
def xstg (c : Dev nD) : XC F := (win0_0.blk (0 : Fin 1)).view.read (Elt F) ((s₀ m ρ).mem ((c : Thread nD τ).loc main_arg0))
/-- the words as staged. -/
def pstg (c : Dev nD) : PC F := (win0_1.blk (0 : Fin 1)).view.read (Elt F) ((s₀ m ρ).mem ((c : Thread nD τ).loc main_arg1))

variable (R : Dev nD → OC F) (Φa : Dev nD → sProp (MT nD τ sig Unit (Elt F) ℕ UU ℕ)) (O : Dev nD → CellTallies nD τ sig Unit)

/-- Every counter of a device's cells at zero. -/
def shut (c : Dev nD) : sProp (MT nD τ sig Unit (Elt F) ℕ UU ℕ) := iprop((bigSep Finset.univ fun k : CK => semVal (kcell (c, k)) 0) ∗ spare (F := F) c)

/-- The launch's data: the staged contents before and after the step, the state on either side of it, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => pstg m ρ c
    | ⟨2, _⟩ => R c
  Φ t := match t with
    | ⟨0, _⟩ => Φa c
    | ⟨_ + 1, _⟩ => shut c
  q _ := fullShare
  owed t := match t with
    | ⟨0, _⟩ => O c
    | ⟨_ + 1, _⟩ => 0

/-- Owning a whole buffer at given contents, written out. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp (MT nD τ sig Unit (Elt F) ℕ UU ℕ) :=
  iprop(∃ f : Buf (Elt F) (((c : Dev nD) : Thread nD τ).loc b), ⌜f = Y⌝ ∗ (((c : Thread nD τ).loc b) ↦{fullShare} f))

/-- What the body finds, -/
def Pre (c : Dev nD) : sProp (MT nD τ sig Unit (Elt F) ℕ UU ℕ) :=
  iprop(Φa c ∗ (∃ W, owes (c : Thread nD τ) (O c) W) ∗ (((c : Thread nD τ).loc cc0_stg0_0) ↦{fullShare} xstg m ρ c)
    ∗ (((c : Thread nD τ).loc cc0_stg1_0) ↦{fullShare} pstg m ρ c) ∗ ∃ f : OC F, (((c : Thread nD τ).loc cc0_stg2_0) ↦{fullShare} f))
/-- and what it leaves. -/
def Post (c : Dev nD) : sProp (MT nD τ sig Unit (Elt F) ℕ UU ℕ) :=
  iprop((∃ W, owes (c : Thread nD τ) 0 W) ∗ (((c : Thread nD τ).loc cc0_stg0_0) ↦{fullShare} xstg m ρ c)
    ∗ (((c : Thread nD τ).loc cc0_stg1_0) ↦{fullShare} pstg m ρ c) ∗ (((c : Thread nD τ).loc cc0_stg2_0) ↦{fullShare} R c) ∗ shut (F := F) c)

abbrev bodyP : Prog (TpuEff nD τ sig (Elt F) Λ₀ .tc) PUnit :=
  cc0_body xM (Memref.isWhole_whole _) pM (Memref.isWhole_whole _) oM (Memref.isWhole_whole _) cc0_scratch0 cc0_scratch1 cc0_scratch2 cc0_scratch3 cc0_scratch4 cc0_scratch5 cc0_scratch6

/-- The body's triple. -/
def BodyOk : Prop := ∀ c : Dev nD, Pre m ρ Φa O c ⊢ wp frame (wpE (defs₀ (F := F)) 𝒱₀ (c : Thread nD τ) none) Set.univ bodyP (fun _ => Post m ρ R c)

/-- The body's precondition as the library states it; -/
def bodyPre' (c : Dev nD) : sProp (MT nD τ sig Unit (Elt F) ℕ UU ℕ) :=
  iprop(Φa c ∗ (dats m ρ R Φa O 0 c).owesAt () t₀.castSucc
    ∗ (∃ d, stg c cc0_stg0_0 ((dats m ρ R Φa O 0 c).before (0 : Fin 3) t₀ d))
    ∗ (∃ d, stg c cc0_stg1_0 ((dats m ρ R Φa O 0 c).before (1 : Fin 3) t₀ d))
    ∗ (∃ d, stg c cc0_stg2_0 ((dats m ρ R Φa O 0 c).before (2 : Fin 3) t₀ d)))
/-- the postcondition likewise. -/
def bodyPost (c : Dev nD) : sProp (MT nD τ sig Unit (Elt F) ℕ UU ℕ) :=
  iprop(shut (F := F) c ∗ (dats m ρ R Φa O 0 c).owesAt () t₀.succ ∗ stg c cc0_stg0_0 (xstg m ρ c) ∗ stg c cc0_stg1_0 (pstg m ρ c) ∗ stg c cc0_stg2_0 (R c))

/-- The body finds the operand staged. -/
theorem before_x (c : Dev nD) (d) : (dats m ρ R Φa O 0 c).before (0 : Fin 3) t₀ d = xstg m ρ c := by
  unfold Dat.before; rw [if_pos (fetch0_0 t₀)]; rfl
/-- The body finds the words staged. -/
theorem before_p (c : Dev nD) (d) : (dats m ρ R Φa O 0 c).before (1 : Fin 3) t₀ d = pstg m ρ c := by
  unfold Dat.before; rw [if_pos (fetch0_1 t₀)]; rfl

/-- The library's precondition gives this one. -/
theorem pre_intro (c : Dev nD) : bodyPre' m ρ R Φa O c ⊢ Pre m ρ Φa O c := by
  unfold bodyPre' Pre stg Dat.owesAt Pipeline.owesWithin
  rw [show (dats m ρ R Φa O 0 c).owed t₀.castSucc = O c from rfl]
  simp only [before_x, before_p]
  iintro ⟨HΦ, ⟨%W, %hW, HO⟩, ⟨%d0, %f0, %h0, H0⟩, ⟨%d1, %f1, %h1, H1⟩, ⟨%d2, %f2, %h2, H2⟩⟩
  isplitl [HΦ]; · iexact HΦ
  isplitl [HO]; · iexists W; iexact HO
  isplitl [H0]
  · ihave H0 := (Entails.of_eq (show (((c : Thread nD τ).loc cc0_stg0_0) ↦{fullShare} f0 : sProp 𝕄) = (((c : Thread nD τ).loc cc0_stg0_0) ↦{fullShare} xstg m ρ c) from by rw [h0])) $$ H0
    iexact H0
  isplitl [H1]
  · ihave H1 := (Entails.of_eq (show (((c : Thread nD τ).loc cc0_stg1_0) ↦{fullShare} f1 : sProp 𝕄) = (((c : Thread nD τ).loc cc0_stg1_0) ↦{fullShare} pstg m ρ c) from by rw [h1])) $$ H1
    iexact H1
  iexists f2; iexact H2
/-- This postcondition gives the library's. -/
theorem post_intro (c : Dev nD) : Post m ρ R c ⊢ bodyPost m ρ R Φa O c := by
  unfold bodyPost Post stg Dat.owesAt Pipeline.owesWithin
  rw [show (dats m ρ R Φa O 0 c).owed t₀.succ = 0 from rfl]
  iintro ⟨⟨%W, HO⟩, H0, H1, H2, HS⟩
  isplitl [HS]; · iexact HS
  isplitl [HO]
  · iexists W; isplitr; · ipureintro; exact fun _ _ => Or.inl trivial
    iexact HO
  isplitl [H0]; · iexists _; isplitr; · (ipureintro; rfl)
                  iexact H0
  isplitl [H1]; · iexists _; isplitr; · (ipureintro; rfl)
                  iexact H1
  iexists _; isplitr; · (ipureintro; rfl)
  iexact H2

/-- The library's obligation, from the triple. -/
theorem body_obligation (hb : BodyOk m ρ R Φa O) (c : Dev nD) : BodyObligation (dats m ρ R Φa O 0 c) (defs₀ (F := F)) 𝒱₀ () Set.univ := fun t => by
  rw [fin_N t]
  rw [bigSep_W0, bigSep_W0]
  simp only [owns_whole_eq]
  show bodyPre' m ρ R Φa O c ⊢ wp frame (wpE (defs₀ (F := F)) 𝒱₀ c none) Set.univ bodyP (fun _ => bodyPost m ρ R Φa O c)
  exact (pre_intro m ρ R Φa O c).trans ((hb c).trans (wp_mono _ _ _ fun _ => post_intro m ρ R Φa O c))

/-- Every window is held whole. -/
theorem share_eq (c : Dev nD) (w : Fin cfg0.W) : (dats m ρ R Φa O 0 c).share w = fullShare := by unfold Dat.share; split <;> rfl

/-- After the step every counter of the device is zero. -/
theorem phi1_exit (c : Dev nD) :
    (dats m ρ R Φa O 0 c).Φ (Fin.last cfg0.N) ⊢ iprop(unscopedSems0 c ∗ Pipeline.ownSems0 osem c ∗ Pipeline.scopedRest cfg0.spec c) := by
  rw [show (dats m ρ R Φa O 0 c).Φ (Fin.last cfg0.N) = shut (F := F) c from rfl, scopedRest0_eq]
  unfold shut
  refine (sems_join c).trans ?_
  iintro ⟨H1, H2⟩
  isplitl [H1]; · iexact H1
  isplitl [H2]; · iexact H2
  iempintro

/-- The staging copies' waits are allowed. -/
theorem waits (hw : ∀ (c : Dev nD) (q : DmaSem sig), q.val < 3 → (levAts L lv : sProp 𝕄) ⊢ MayWait (c : Thread nD τ) (.dma q) () (O c))
    (c : Dev nD) : (levAts L lv : sProp 𝕄) ⊢ Pipeline.cellsWaits cfgs (dats m ρ R Φa O) () 0 c :=
  Pipeline.cellsWaits_intro cfgs (dats m ρ R Φa O) () 0 c fun w s t => by
    rcases t with ⟨_ | _, ht⟩
    · exact hw c _ (by fin_cases w <;> fin_cases s <;> decide)
    · show (levAts L lv : sProp 𝕄) ⊢ MayWait (c : Thread nD τ) _ () 0
      rw [MayWait_zero]; iintro -; iempintro

/-- The run: both operands as launched, the result at `R`, every counter at zero. -/
theorem run_of (G G' : Dev nD → sProp 𝕄) (u₀ : UU) (hb : BodyOk m ρ R Φa O)
    (hw : ∀ (c : Dev nD) (q : DmaSem sig), q.val < 3 → (levAts L lv : sProp 𝕄) ⊢ MayWait (c : Thread nD τ) (.dma q) () (O c))
    (hu : (ownU u₀ : sProp 𝕄) ⊢ |={Set.univ}=> iprop(BI.own (EP (initOf (Pipeline.cells cfgs cellOf_inj) (Pipeline.launchToks cfgs cellOf_inj))) ∗ bigSep Finset.univ G))
    (hg : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ G')
    (hX : ∀ c, iprop(levAts L lv ∗ Pipeline.launchCred O c ∗ G' c) ⊢ Φa c) :
    θ_run defs (onTc (τ := τ) (main (F := F))) (s₀ m ρ) (fun r =>
      (∀ c : Dev nD, ∀ w : Fin cfg0.W, r.2.mem ((cfg0.win w).arr.view.loc (c : Thread nD τ)) = (dats m ρ R Φa O 0 c).arrAt w cfg0.N) ∧ r.2.sem = fun _ => 0) :=
  Pipeline.θ_run_region_owing_glob_pf (fun p => (cfgs p).toPCfg) (fun p => (cfgs p).toPCfg_adm) (dats m ρ R Φa O) () cellOf_inj (0 : Fin 1)
    winFacts0.to₀ ownSemFacts (Pipeline.PreFacts.none _) EP defs₀ 𝒱₀ m ρ main
    (hmain := fun _ => rfl)
    (hbody := body_obligation m ρ R Φa O hb) (hne := block_pos0) (harr := arr_whole0) (hstage := stage_whole0) (hshare := share_eq m ρ R Φa O)
    (hdistinct := winFacts0.arr_inj)
    (O₀ := O) (howed₀ := fun _ => rfl) (howedN := fun _ => rfl)
    (L := L) (lv := lv) (hL := L_of_ne) (hwaits := waits m ρ R Φa O hw)
    (G := G) (G' := G') (u₀ := u₀) (hu₀ := hu) (hglob := hg)
    (hA := fun _ _ => rfl) (hpf := fun _ k => k.elim0)
    (X := Φa) (Y := fun c => unscopedSems0 c) (Z := fun _ => iprop(emp))
    (hX := fun c => by
      iintro ⟨-, Hl, Hc, -, HG⟩
      imodintro
      isplitl
      · iapply (hX c)
        isplitl [Hl]; · iexact Hl
        isplitl [Hc] <;> iassumption
      · iempintro)
    (hin := fun c => by
      rw [show (dats m ρ R Φa O 0 c).Φ 0 = Φa c from rfl]
      iintro ⟨H, -, -⟩; iexact H)
    (hout := phi1_exit m ρ R Φa O)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Arrays and staging buffers -/

/-- The result's window covers its array. -/
theorem whole_0 : (cfg0.win (2 : Fin 3)).WholeAt t₀ := by decide +kernel
/-- The staged operand is the launch's. -/
theorem xstg_eq (c : Dev nD) : xstg m ρ c = m ((c : Thread nD τ).loc main_arg0) := by
  funext i
  show m ((c : Thread nD τ).loc main_arg0) _ = _
  congr 1; funext a; exact Fin.ext (by show 0 * _ + 1 * (i a).val = _; omega)
/-- The staged words are the launch's. -/
theorem pstg_eq (c : Dev nD) : pstg m ρ c = m ((c : Thread nD τ).loc main_arg1) := by
  funext i
  show m ((c : Thread nD τ).loc main_arg1) _ = _
  congr 1; funext a; exact Fin.ext (by show 0 * _ + 1 * (i a).val = _; omega)
/-- The operand's array ends as launched. -/
theorem arr_x (c : Dev nD) : (dats m ρ R Φa O 0 c).arrAt (0 : Fin 3) cfg0.N = m ((c : Thread nD τ).loc main_arg0) := (dats m ρ R Φa O 0 c).arrAt_in (0 : Fin 3) rfl _
/-- The words' array ends as launched. -/
theorem arr_p (c : Dev nD) : (dats m ρ R Φa O 0 c).arrAt (1 : Fin 3) cfg0.N = m ((c : Thread nD τ).loc main_arg1) := (dats m ρ R Φa O 0 c).arrAt_in (1 : Fin 3) rfl _
/-- The result's array ends at `R`. -/
theorem arr_o (c : Dev nD) : (dats m ρ R Φa O 0 c).arrAt (2 : Fin 3) cfg0.N = R c :=
  (dats m ρ R Φa O 0 c).arrAt_eq_of_after_last (2 : Fin 3) t₀ whole_0 (R c) (fun j => rfl)

/-- The final memory a run to `R` ends at. -/
def Ends (r : PUnit × MemSt nD τ sig (Elt F)) : Prop :=
  (∀ c : Dev nD, r.2.mem ((c.tc : Thread nD τ).loc main_v1) = R c
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- The launch's conclusion is that the run ends so. -/
theorem ends_of {r : PUnit × MemSt nD τ sig (Elt F)}
    (h : (∀ c : Dev nD, ∀ w : Fin cfg0.W, r.2.mem ((cfg0.win w).arr.view.loc (c : Thread nD τ)) = (dats m ρ R Φa O 0 c).arrAt w cfg0.N) ∧ r.2.sem = fun _ => 0) : Ends m R r :=
  ⟨fun c => ⟨(h.1 c (2 : Fin 3)).trans (arr_o m ρ R Φa O c), (h.1 c (0 : Fin 3)).trans (arr_x m ρ R Φa O c), (h.1 c (1 : Fin 3)).trans (arr_p m ρ R Φa O c)⟩, h.2⟩

end Cert.KernelIdealProof

end
-- ==== Proof.Run.lean ====
module

public import proofs.«01_k».proof.Proof.Launch

@[expose] public section

set_option maxRecDepth 8000

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Words that exchange -/

/-- What the exchanging body starts from. -/
def start (X : Dev nD → XC F) (c : Dev nD) : sProp (MT nD τ sig Unit (Elt F) ℕ UU ℕ) :=
  iprop(G' X c ∗ cred (tallyAt (barC c) () 3) ∗ (bigSep Finset.univ fun t : T => cred (tallyAt (rcvC c t) () N)) ∗ levAts L lv)

/-- The invariants and the levels are what is known to all. -/
theorem recs_intro (X : Dev nD → XC F) (K : Dev nD × CK → ℕ) : iprop(records X K ∗ levAts L lv) ⊢ recs X K := by
  unfold records recs
  iintro ⟨⟨H1, H2⟩, H3⟩
  isplitl [H1]; · iexact H1
  isplitl [H2] <;> iassumption

/-- What the exchanging body finds is the state before its first signal. -/
theorem pre_hand (c : Dev nD) :
    Pre m ρ (start (xstg m ρ)) O₀ c ⊢ iprop(∃ K : Dev nD × CK → ℕ, (((c : Thread nD τ).loc cc0_stg1_0) ↦{fullShare} pstg m ρ c) ∗ Hand (xstg m ρ) K (spare (F := F) c) c [0, 2, 1]) := by
  unfold Pre start G' linear
  iintro ⟨⟨⟨%K, HR, Hat, Htk, Hz⟩, HcB, HcR, HL⟩, HO, Hx, Hp, ⟨%f, Ho⟩⟩
  iexists K
  isplitl [Hp]; · iexact Hp
  iapply (hand_intro (xstg m ρ) K (spare (F := F) c) c f)
  isplitl [HR HL]; · iapply (recs_intro (xstg m ρ) K); isplitl [HR] <;> iassumption
  isplitl [HO]; · iexact HO
  isplitl [Hat]; · iexact Hat
  isplitl [Htk]; · iexact Htk
  isplitl [HcB]; · iexact HcB
  isplitl [HcR]; · iexact HcR
  isplitl [Hx]; · iexact Hx
  isplitl [Ho]; · iexact Ho
  iexact Hz

/-- The state after the last operation is what the body has to leave. -/
theorem st_post (K : Dev nD × CK → ℕ) (c : Dev nD) :
    St (xstg m ρ) K (ZB (PZ (spare (F := F) c) c (pstg m ρ c)) c) c 192 ⊢ |={Set.univ}=> Post m ρ (fin (xstg m ρ)) c := by
  refine (st_elim (xstg m ρ) K (spare (F := F) c) c (pstg m ρ c)).trans (BI.fupd_mono ?_)
  unfold Post shut
  iintro ⟨HO, Hx, Hp, Ho, Hs⟩
  isplitl [HO]; · iexact HO
  isplitl [Hx]; · iexact Hx
  isplitl [Hp]; · iexact Hp
  isplitl [Ho]; · iexact Ho
  iexact Hs

/-- The exchanging body's triple. -/
theorem body_exchange (hp : ∀ (c : Dev nD) i, (i 0).val = yOf c → pstg m ρ c i = yw c) : BodyOk m ρ (fin (xstg m ρ)) (start (xstg m ρ)) O₀ := fun c => by
  refine (pre_hand m ρ c).trans ?_
  iintro ⟨%K, H⟩
  istop
  exact (wp_body (xstg m ρ) K (spare (F := F) c) c (pstg m ρ c) (hp c) _ _ _).trans
    ((wp_mono _ _ _ fun _ => st_post m ρ K c).trans (wp_fupd _ _ _ _ _))

/-- What a device owes in the handshake is a landing, or a signal to a neighbour. -/
theorem owedH_pos {d : Dev nD} {g : GSem nD τ sig} {u : Unit} : ∀ {js : List (Fin 3)}, 0 < owedH d js g u → (∃ t, g = rcvC (tgt d t) t) ∨ ∃ j, g = barC (nb j d)
  | [], h => by obtain ⟨t, -, e⟩ := owed_pos (R := ops) h; exact Or.inl ⟨t, e⟩
  | j :: js, h => by
    unfold owedH at h
    rw [Pi.add_apply, Finsupp.add_apply, tallyAt_apply] at h
    by_cases hg : g = barC (nb j d)
    · exact Or.inr ⟨j, hg⟩
    · rw [if_neg (fun h' => hg h'.1), Nat.add_zero] at h; exact owedH_pos h

/-- The staging waits come before all a device owes. -/
theorem mayWait_stage (c : Dev nD) (q : DmaSem sig) (hq : q.val < 3) : (levAts L lv : sProp 𝕄) ⊢ MayWait (c : Thread nD τ) (.dma q) () (O₀ c) :=
  MayOwe.of_cut (L := L) (lev := lv) 0 (fun p hp => by rw [Finset.mem_singleton.mp hp, L_tc]; exact Finset.mem_singleton_self _)
    (fun g u hg => by rcases owedH_pos hg with ⟨t, rfl⟩ | ⟨j, rfl⟩ <;> exact Finset.mem_singleton_self _)
    (fun p hp => by rw [Finset.mem_singleton.mp hp]; unfold lv; rw [kind_stage q hq]; exact le_refl _)
    (fun g u hg => by
      rcases owedH_pos hg with ⟨t, rfl⟩ | ⟨j, rfl⟩
      · rw [lv_at]; show 0 < lvlR t; unfold lvlR; split <;> [decide; split <;> decide]
      · rw [lv_at]; exact Nat.one_pos)

/-- What the launch gives a device is what the exchanging body starts from. -/
theorem start_intro (X : Dev nD → XC F) (c : Dev nD) : iprop(levAts L lv ∗ Pipeline.launchCred O₀ c ∗ G' X c) ⊢ start X c := by
  unfold start
  iintro ⟨HL, Hc, HG⟩
  ihave Hc := (creds (F := F) c) $$ Hc
  icases Hc with ⟨HcB, HcR⟩
  isplitl [HG]; · iexact HG
  isplitl [HcB]; · iexact HcB
  isplitl [HcR]; · iexact HcR
  iexact HL

/-- On words that exchange the rows, every device ends with its partner row's blocks. -/
theorem run_exchange (hp : ∀ (c : Dev nD) i, (i 0).val = yOf c → pstg m ρ c i = yw c) :
    θ_run defs (onTc (τ := τ) (main (F := F))) (s₀ m ρ) (Ends m (fin (xstg m ρ))) :=
  (θ_run defs _ _).mono (fun _ h => ends_of m ρ _ _ _ h)
    (run_of m ρ (fin (xstg m ρ)) (start (xstg m ρ)) O₀ (G (xstg m ρ)) (G' (xstg m ρ)) u₀ (body_exchange m ρ hp) mayWait_stage
      (by
        unfold u₀
        iintro Hu
        ihave H := (ownU_pair _ _) $$ Hu
        icases H with ⟨HP, HX⟩
        imod (fund_all (xstg m ρ)) $$ HX with HG
        imodintro
        isplitl [HP] <;> iassumption)
      (glob (xstg m ρ)) (start_intro (xstg m ρ)))

/-! ## Words that leave the rows in place -/

/-- At the word of its own row a device has nothing to check, -/
theorem chk_own : ∀ d : Dev nD, k0_chk1 d (BitVec.ofNat 32 (yOf d)) := by decide +kernel
/-- and does not take the exchange. -/
theorem cond_own : ∀ d : Dev nD, ¬ k0_cond2 d (BitVec.ofNat 32 (yOf d)) = 1#1 := by decide +kernel

/-- The offset of a whole buffer is zero. -/
theorem hz3 : (![0, 0, 0] : Fin 3 → Nat) = fun _ => 0 := funext fun a => by fin_cases a <;> rfl
abbrev r0 : Rect S1x2048x1024 := Rect.unit (s := S1x2048x1024) ![0, 0, 0] S1x2048x1024.size inb_S1x2048x1024_S1x2048x1024_0_0_0
/-- Reading the whole operand gives its contents. -/
theorem read_x (f : XC F) : (xM : Memref sig .tc .vmem S1x2048x1024 .f32).view.readAt (Elt F) r0.toLoadRect f = f :=
  Memref.readAt_unit_zero (Elt F) cc0_stg0_0 hz3 _ f
/-- Writing the whole result leaves what was written. -/
theorem write_out (f w : OC F) : ((oM : Memref sig .tc .vmem S1x2048x1024 .f32).access r0 : View sig .tc _ _ _).write (Elt F) f w Finset.univ = w :=
  Memref.write_access_unit_zero_univ (Elt F) cc0_stg2_0 hz3 _ f w

/-- What the copying body finds, in the order of its use. -/
theorem same_pre (c : Dev nD) : Pre m ρ (shut (F := F)) (fun _ => 0) c ⊢
    iprop((((c : Thread nD τ).loc cc0_stg1_0) ↦{fullShare} pstg m ρ c) ∗ shut (F := F) c ∗ (∃ W, owes (c : Thread nD τ) 0 W)
      ∗ (((c : Thread nD τ).loc cc0_stg0_0) ↦{fullShare} xstg m ρ c) ∗ ∃ f : OC F, (((c : Thread nD τ).loc cc0_stg2_0) ↦{fullShare} f)) := by
  unfold Pre
  iintro ⟨HS, HO, Hx, Hp, Ho⟩
  isplitl [Hp]; · iexact Hp
  isplitl [HS]; · iexact HS
  isplitl [HO]; · iexact HO
  isplitl [Hx]; · iexact Hx
  iexact Ho

/-- The copying body's triple. -/
theorem body_same (hp : ∀ (c : Dev nD) i, (i 0).val = yOf c → pstg m ρ c i = BitVec.ofNat 32 (yOf c)) :
    BodyOk m ρ (fun c => k0_pay1 (xstg m ρ c)) (shut (F := F)) (fun _ => 0) := fun c => by
  refine BI.Entails.trans (same_pre m ρ c) ?_
  unfold bodyP
  rw [cc0_body_eq_skeleton]; unfold cc0_body_skel
  simp only [smemLoad, smemLoadElt, Prog.lift, Prog.bind_op, Prog.bind_ret, Prog.pure_eq_ret, Prog.bind_assoc, wp_deviceId]
  refine wp_pload ?_
  rw [word_eq c (pstg m ρ c) (BitVec.ofNat 32 (yOf c)) (hp c)]
  refine BI.Entails.trans ?_ (wp_assume 𝒱₀ (c : Thread nD τ) none Set.univ (chk_own c))
  rw [if_pos (show _ from by clear * - c; revert c; decide +kernel), dif_neg (cond_own c)]
  show (_ : sProp 𝕄) ⊢ _
  iintro ⟨Hp, HS, HO, Hx, ⟨%f, Ho⟩⟩
  simp only [Prog.bind_op, Prog.bind_ret]
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Ho; iintro Ho
  iapply (wp_store 𝒱₀ (c : Thread nD τ) none Set.univ (m := oM) (r := r0) (Mk := Finset.univ) (Finset.subset_univ _)) $$ Ho; iintro Ho
  istop
  rw [read_x, write_out, wp_ret]
  refine BI.Entails.trans ?_ (show Post m ρ (fun c => k0_pay1 (xstg m ρ c)) c ⊢ |={Set.univ}=> Post m ρ (fun c => k0_pay1 (xstg m ρ c)) c from fupd_intro)
  show (_ : sProp 𝕄) ⊢ _
  unfold Post
  iintro ⟨⟨⟨⟨Hp, HS⟩, HO⟩, Hx⟩, Ho⟩
  isplitl [HO]; · iexact HO
  isplitl [Hx]; · iexact Hx
  isplitl [Hp]; · iexact Hp
  isplitl [Ho]; · iexact Ho
  iexact HS

/-- The reshape to the same shape is no change. -/
theorem pay_eq (v : XC F) : k0_pay1 v = v := by
  unfold k0_pay1
  exact shapeCast_self v _

/-- A launch without a protocol deals the devices nothing. -/
theorem nothing_dealt : (ownU u₀ : sProp 𝕄)
    ⊢ |={Set.univ}=> iprop(BI.own (EP (initOf (Pipeline.cells cfgs cellOf_inj) (Pipeline.launchToks cfgs cellOf_inj))) ∗ bigSep Finset.univ fun _ : Dev nD => iprop(emp)) := by
  unfold u₀
  iintro Hu
  ihave H := (ownU_pair _ _) $$ Hu
  icases H with ⟨HP, -⟩
  imodintro
  isplitl [HP]; · iexact HP
  iapply (Entails.of_eq (show (iprop(emp) : sProp 𝕄) = bigSep Finset.univ fun _ : Dev nD => iprop(emp) from (BI.bigSep_emp_const _).symm))
  iempintro

/-- A device's counters at zero. -/
theorem counters (c : Dev nD) :
    iprop(Pipeline.ownSems0 (Ix := Unit) (Name := ℕ) (U := UU) (Lvl := ℕ) (Val := Elt F) (τ := τ) osem c ∗ unscopedSems0 c ∗ emp) ⊢ shut (F := F) c := by
  unfold shut
  refine BI.Entails.trans ?_ (sems_split c)
  show (_ : sProp 𝕄) ⊢ _
  iintro ⟨H1, H2, -⟩
  isplitl [H1] <;> iassumption

/-- All devices' counters at zero. -/
theorem all_counters : (bigSep Finset.univ fun c : Dev nD =>
      iprop(Pipeline.ownSems0 (Ix := Unit) (Name := ℕ) (U := UU) (Lvl := ℕ) (Val := Elt F) (τ := τ) osem c ∗ unscopedSems0 c ∗ emp) : sProp 𝕄)
    ⊢ |={Set.univ}=> bigSep Finset.univ (shut (F := F)) := by
  have h : (bigSep Finset.univ fun c : Dev nD =>
      iprop(Pipeline.ownSems0 (Ix := Unit) (Name := ℕ) (U := UU) (Lvl := ℕ) (Val := Elt F) (τ := τ) osem c ∗ unscopedSems0 c ∗ emp) : sProp 𝕄)
      ⊢ bigSep Finset.univ (shut (F := F)) := bigSep_mono fun c _ => counters c
  exact h.trans fupd_intro

/-- On words that leave the rows in place, every device ends with its own block. -/
theorem run_same (hp : ∀ (c : Dev nD) i, (i 0).val = yOf c → pstg m ρ c i = BitVec.ofNat 32 (yOf c)) :
    θ_run defs (onTc (τ := τ) (main (F := F))) (s₀ m ρ) (Ends m (fun c => xstg m ρ c)) :=
  (θ_run defs _ _).mono (fun r h => by
      have h := ends_of m ρ _ _ _ h
      simp only [pay_eq] at h
      exact h)
    (run_of m ρ (fun c => k0_pay1 (xstg m ρ c)) (shut (F := F)) (fun _ => 0) (fun _ => iprop(emp)) (shut (F := F)) u₀ (body_same m ρ hp)
      (fun c q _ => by rw [MayWait_zero]; iintro -; iempintro)
      nothing_dealt
      all_counters
      (fun c => by iintro ⟨-, -, H⟩; iexact H))

end Cert.KernelIdealProof

end
-- ==== Proof.Claims.lean ====
module

public import proofs.«01_k».proof.Proof.Run
public import proofs.«01_k».proof.Proof.Words

@[expose] public section

noncomputable section

namespace Cert.KernelIdealProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Under `exchanged`, every device ends with the blocks of the devices across y, tile by tile. -/
theorem ends_exchanged (h : ∀ c : Dev nD, Cert.Pre_exchanged_Kernel.fn (F := F) (m ((c.tc : Thread nD τ).loc main_arg0)) (m ((c.tc : Thread nD τ).loc main_arg1)) = fun _ => 1#1) :
    θ_run defs (onTc (τ := τ) (main (F := F))) ⟨m, fun _ => 0, ρ⟩ (Ends m (fin fun c => m ((c.tc : Thread nD τ).loc main_arg0))) := by
  have h' := run_exchange m ρ fun c i hi => by
    rw [pstg_eq, Cert.WordsProof.exchanged_words _ _ (h c) i, hi]
  rw [show xstg m ρ = fun c : Dev nD => m ((c.tc : Thread nD τ).loc main_arg0) from funext (xstg_eq m ρ)] at h'
  exact h'

/-- Under `identity`, every device ends with its own block. -/
theorem ends_same (h : ∀ c : Dev nD, Cert.Pre_identity_Kernel.fn (F := F) (m ((c.tc : Thread nD τ).loc main_arg0)) (m ((c.tc : Thread nD τ).loc main_arg1)) = fun _ => 1#1) :
    θ_run defs (onTc (τ := τ) (main (F := F))) ⟨m, fun _ => 0, ρ⟩ (Ends m fun c => m ((c.tc : Thread nD τ).loc main_arg0)) := by
  have h' := run_same m ρ fun c i hi => by
    rw [pstg_eq, Cert.WordsProof.identity_words _ _ (h c) i, hi]
  rw [show xstg m ρ = fun c : Dev nD => m ((c.tc : Thread nD τ).loc main_arg0) from funext (xstg_eq m ρ)] at h'
  exact h'

end Cert.KernelIdealProof

end
-- ==== Proof.Ref.lean ====
/-
  The reference: one straight line of host operations.  It sorts the two words together with their positions, turns the
  sorted positions into row numbers, and gathers the rows of the array.
-/
module

public import proofs.«01_k».proof.Proof.Gen.ReferenceIdeal
public import Idealize.ShloMosaic.Lib.StableHlo.RunHlo
public import Idealize.ShloMosaic.Lib.Layout
public import Idealize.ShloMosaic.Lib.Quiescent

@[expose] public section

noncomputable section

namespace Cert.RefProof

open Cert.ReferenceIdeal Cert.ReferenceIdeal.Gen
open Idealize.ShloMosaic Idealize.ShloMosaic.TcCoe Idealize.ShloMosaic.StableHlo Idealize.SL.Sem

variable {F : FTy → Type} [FloatOps F]

/-- The positions of the two words, in the order that sorts the words. -/
def places (p : IVec S2 32) : IVec S2 32 := (Host.sort2 S2 0 comparator_i32_i32_d0 p (iotaInDim S2 32 0)).2

/-- Those positions as row numbers, a negative one counted from the end. -/
def rows (p : IVec S2 32) : IVec S2x1 32 :=
  broadcastInDim S2x1 ![0] bcast_S2_S2x1_0
    (select (cmpi .slt (places p) (broadcastInDim S2 ![] bcast_S_S2 (constantI S_ 32 0#32)))
      (addi (places p) (broadcastInDim S2 ![] bcast_S_S2 (constantI S_ 32 2#32))) (places p))

/-- The result: the rows of the array so named. -/
def refOut (x : FVec F S2x2048x1024 .f32) (p : IVec S2 32) : FVec F S2x2048x1024 .f32 :=
  Host.gather gather_S2x2048x1024_S2x1_S2x2048x1024_12_0_n_n_0_1_120481024 x (rows p)

/-- @main's operations, in order. -/
abbrev ops : List (HloOp τ sig (Elt F)) :=
  [ nullary main_call0_v0 (iotaInDim S2 32 0),
    binary main_arg1 main_call0_v0 main_call0_v1_0 (fun x y => (Host.sort2 S2 0 comparator_i32_i32_d0 x y).1),
    binary main_arg1 main_call0_v0 main_v0 (fun x y => (Host.sort2 S2 0 comparator_i32_i32_d0 x y).2),
    nullary main_c (constantI S_ 32 0#32),
    unary main_c main_v1 (broadcastInDim S2 ![] bcast_S_S2 : (⟨S_, .i32⟩ : BufTy).Contents (Elt F) → (⟨S2, .i32⟩ : BufTy).Contents (Elt F)),
    binary main_v0 main_v1 main_v2 (cmpi .slt : (⟨S2, .i32⟩ : BufTy).Contents (Elt F) → (⟨S2, .i32⟩ : BufTy).Contents (Elt F) → (⟨S2, .i1⟩ : BufTy).Contents (Elt F)),
    nullary main_c_0 (constantI S_ 32 2#32),
    unary main_c_0 main_v3 (broadcastInDim S2 ![] bcast_S_S2 : (⟨S_, .i32⟩ : BufTy).Contents (Elt F) → (⟨S2, .i32⟩ : BufTy).Contents (Elt F)),
    binary main_v0 main_v3 main_v4 (addi : (⟨S2, .i32⟩ : BufTy).Contents (Elt F) → (⟨S2, .i32⟩ : BufTy).Contents (Elt F) → (⟨S2, .i32⟩ : BufTy).Contents (Elt F)),
    ternary main_v2 main_v4 main_v0 main_v5 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v5 main_v6 (broadcastInDim S2x1 ![0] bcast_S2_S2x1_0 : (⟨S2, .i32⟩ : BufTy).Contents (Elt F) → (⟨S2x1, .i32⟩ : BufTy).Contents (Elt F)),
    binary main_arg0 main_v6 main_v7 ((fun x i => Host.gather gather_S2x2048x1024_S2x1_S2x2048x1024_12_0_n_n_0_1_120481024 x i) : (⟨S2x2048x1024, .f32⟩ : BufTy).Contents (Elt F) → (⟨S2x1, .i32⟩ : BufTy).Contents (Elt F) → (⟨S2x2048x1024, .f32⟩ : BufTy).Contents (Elt F)) ]

/-- @main is that straight line. -/
theorem main_eq (c : Dev nD) : main (F := F) c = seq ops := rfl

/-- The straight line leaves the result at `refOut` of the arguments, -/
theorem out_eq (V : Valuation τ sig (Elt F)) : after ops V (main_v7 : DevRef τ sig) = refOut (V (main_arg0 : DevRef τ sig)) (V (main_arg1 : DevRef τ sig)) := by
  after_results
  rfl
/-- the array as it was, -/
theorem arg0_eq (V : Valuation τ sig (Elt F)) : after ops V (main_arg0 : DevRef τ sig) = V (main_arg0 : DevRef τ sig) := by
  after_results
/-- and the words as they were. -/
theorem arg1_eq (V : Valuation τ sig (Elt F)) : after ops V (main_arg1 : DevRef τ sig) = V (main_arg1 : DevRef τ sig) := by
  after_results

/-- The reference has no scoped buffer, -/
theorem no_refs : (Finset.univ.filter fun b : Ref sig .tc => b.isScoped) = ∅ := by decide
/-- and no scoped semaphore. -/
theorem no_sems : (Finset.univ.filter fun sm : SemLoc sig => sm.isScoped .tc) = ∅ := by decide

/-- Its operations use the device's own buffers only. -/
theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- From any memory with zero counters the reference ends with its result at `refOut` of its arguments, the arguments
    as they were, and every counter zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h c main_v7).trans (out_eq _), (h c main_arg0).trans (arg0_eq _), (h c main_arg1).trans (arg1_eq _)⟩,
      sem_eq_zero_of_no_sems rfl _⟩)
    (run_seq no_refs no_sems defs main (fun _ => ops) main_eq (fun _ => ops_sub) m ρ)

/-! ## What the rows are -/

/-- Words `1, 0` name the rows `1, 0`, -/
theorem rows_exchanged (p : IVec S2 32) (h0 : ∀ i : S2.Idx, p i = BitVec.ofNat 32 (1 - (i 0).val)) (j : S2x1.Idx) :
    rows p j = BitVec.ofNat 32 (1 - (j 0).val) := by
  rw [show p = fun i => BitVec.ofNat 32 (1 - (i 0).val) from funext h0]
  revert j; decide +kernel
/-- words `0, 1` the rows `0, 1`. -/
theorem rows_same (p : IVec S2 32) (h0 : ∀ i : S2.Idx, p i = BitVec.ofNat 32 (i 0).val) (j : S2x1.Idx) :
    rows p j = BitVec.ofNat 32 (j 0).val := by
  rw [show p = fun i => BitVec.ofNat 32 (i 0).val from funext h0]
  revert j; decide +kernel

/-- Row `r` at the place of `y`. -/
def atRow (r : Fin 2) (y : S2x2048x1024.Idx) : S2x2048x1024.Idx := fun a =>
  match a with
  | ⟨0, _⟩ => r
  | ⟨1, _⟩ => y 1
  | ⟨2, _⟩ => y 2

/-- The gather at `y` reads the row that the word of `y`'s row names. -/
theorem gather_at {α : Type} (x : S2x2048x1024.Idx → α) (ix : IVec S2x1 32) (y : S2x2048x1024.Idx) (r : Fin 2)
    (hr : ∀ j : S2x1.Idx, (j 0).val = (y 0).val → ix j = BitVec.ofNat 32 r.val) :
    Host.gather gather_S2x2048x1024_S2x1_S2x2048x1024_12_0_n_n_0_1_120481024 x ix y = x (atRow r y) := by
  unfold Host.gather
  congr 1
  funext a
  refine Fin.ext ?_
  match a with
  | ⟨0, _⟩ =>
    show GatherDims.start _ y ix 0 + GatherDims.batchCoord _ y 0 + GatherDims.offCoord _ y 0 = r.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin S2x2048x1024.rank) ∈ gather_S2x2048x1024_S2x1_S2x2048x1024_12_0_n_n_0_1_120481024.startIndexMap from List.mem_singleton.mpr rfl), hr _ rfl]
    show min (BitVec.ofNat 32 r.val).toInt.toNat 1 + 0 + 0 = r.val
    clear * - r; revert r; decide
  | ⟨1, _⟩ => exact Nat.zero_add _
  | ⟨2, _⟩ => exact Nat.zero_add _

end Cert.RefProof

end
-- ==== Proof.Blocks.lean ====
/-
  The reference's result, cut into the blocks that the devices hold.
-/
module

public import proofs.«01_k».proof.Proof.Claims
public import proofs.«01_k».proof.Proof.Ref

@[expose] public section

noncomputable section

namespace Cert.BlocksProof

open Idealize.ShloMosaic
open Cert.KernelIdealProof (yOf org org_y fin tileOf)

/-- A device's block, the whole array. -/
abbrev SB : Shape := ⟨3, ![1, 2048, 1024]⟩
abbrev SW : Shape := ⟨3, ![2, 2048, 1024]⟩

abbrev blk {α : Type} (c : Fin 8) (v : SW.Idx → α) : SB.Idx → α :=
  Layout.blockN SB SW (Layout.meshBlock [2, 2, 2] ![[1], [], []] c) v

/-- The y-coordinate of a device of the mesh. -/
theorem mesh_y : ∀ c : Fin 8, Layout.meshLin [2, 2, 2] c.val [1] = c.val / 2 % 2 := by decide

/-- It is 0 or 1. -/
theorem y_lt (c : Fin 8) : c.val / 2 % 2 < 2 := Nat.mod_lt _ (by decide)

/-- Where a block's entry lies in the whole array. -/
def spot (r : Fin 2) (i : SB.Idx) : SW.Idx := fun a =>
  match a with
  | ⟨0, _⟩ => r
  | ⟨1, _⟩ => i 1
  | ⟨2, _⟩ => i 2

/-- Device `c`'s block is the row of its y-coordinate. -/
theorem blk_apply {α : Type} (c : Fin 8) (v : SW.Idx → α) (i : SB.Idx) : blk c v i = v (spot ⟨c.val / 2 % 2, y_lt c⟩ i) := by
  unfold blk
  rw [Layout.blockN_apply]
  congr 1; funext a; refine Fin.ext ?_
  match a with
  | ⟨0, _⟩ =>
    show Layout.meshLin [2, 2, 2] c.val [1] * 1 + (i 0).val = c.val / 2 % 2
    have h : (i 0).val < 1 := (i 0).isLt
    rw [mesh_y]; omega
  | ⟨1, _⟩ => show 0 * _ + (i 1).val = (i 1).val; omega
  | ⟨2, _⟩ => show 0 * _ + (i 2).val = (i 2).val; omega

variable {F : FTy → Type} [FloatOps F]

/-- On the words `0, 1` the reference's result is the array. -/
theorem blk_same (x : FVec F SW .f32) (p : IVec Cert.WordsProof.S2 32) (h : ∀ i, p i = BitVec.ofNat 32 (i 0).val) (c : Fin 8) :
    blk c x = blk c (Cert.RefProof.refOut x p) := by
  funext i
  rw [blk_apply, blk_apply]
  unfold Cert.RefProof.refOut
  rw [Cert.RefProof.gather_at x _ _ ⟨c.val / 2 % 2, y_lt c⟩ fun j hj => by
    rw [Cert.RefProof.rows_same p h j, hj]; rfl]
  rfl

/-- On the words `1, 0` a device's block of the reference's result is, tile by tile, that of the device whose tile it
    receives. -/
theorem blk_exchanged (x : FVec F SW .f32) (p : IVec Cert.WordsProof.S2 32) (h : ∀ i, p i = BitVec.ofNat 32 (1 - (i 0).val)) (c : Fin 8) :
    fin (F := F) (fun d => blk d x) c = blk c (Cert.RefProof.refOut x p) := by
  funext i
  unfold fin
  have ho := org_y c (tileOf i)
  generalize org c (tileOf i) = d at ho
  show blk d x i = _
  rw [blk_apply, blk_apply]
  unfold Cert.RefProof.refOut
  rw [Cert.RefProof.gather_at x _ _ ⟨d.val / 2 % 2, y_lt d⟩ fun j hj => by
    rw [Cert.RefProof.rows_exchanged p h j, hj]
    show BitVec.ofNat 32 (1 - c.val / 2 % 2) = BitVec.ofNat 32 (d.val / 2 % 2)
    have hc := y_lt c
    change d.val / 2 % 2 = (c.val / 2 % 2 + 1) % 2 at ho
    rw [ho]; congr 1; omega]
  rfl

end Cert.BlocksProof

end
-- ==== Proof.lean ====
/-
  The claims.  The kernel moves each device's block across the y axis when the two words are `1, 0` (Proof/Run.lean,
  `run_exchange`) and copies it in place when they are `0, 1` (`run_same`); the same modules at the machine's own
  floats are in Proof/Bits.  The reference is a straight line of host operations (Proof/Ref.lean), and Proof/Blocks.lean
  cuts its result into the blocks that the devices end with.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_exchanged_Kernel
public import proofs.«01_k».proof.Proof.Gen.Pre_identity_Kernel
public import proofs.«01_k».proof.Proof.Gen.Pre_exchanged_ReferenceIdeal
public import proofs.«01_k».proof.Proof.Gen.Pre_identity_ReferenceIdeal
public import proofs.«01_k».proof.Proof.Bits.Claims
public import proofs.«01_k».proof.Proof.Blocks
public import Idealize.ShloMosaic.Adequacy
public import Idealize.ShloMosaic.Init

@[expose] public section

noncomputable section

namespace Cert.Proof

open Idealize.ShloMosaic Idealize.SL.Sem

/-- The kernel under `exchanged`: the arguments end unchanged and the counters at zero; -/
theorem bits_exchanged : Cert.quiescent_Kernel := fun m g h =>
  (θ_run _ _ _).mono (fun _ e => ⟨fun c => (e.1 c).2, e.2⟩) (Cert.KernelProof.ends_exchanged m g h)

/-- and under `identity`. -/
theorem bits_same : Cert.quiescent_Kernel_pre_identity_Kernel := fun m g h =>
  (θ_run _ _ _).mono (fun _ e => ⟨fun c => (e.1 c).2, e.2⟩) (Cert.KernelProof.ends_same m g h)

/-- The same of the idealized kernel, under `exchanged`, -/
theorem ideal_exchanged : Cert.quiescent_KernelIdeal := fun m g h =>
  (θ_run _ _ _).mono (fun _ e => ⟨fun c => (e.1 c).2, e.2⟩) (Cert.KernelIdealProof.ends_exchanged m g h)

/-- and under `identity`. -/
theorem ideal_same : Cert.quiescent_KernelIdeal_pre_identity_Kernel := fun m g h =>
  (θ_run _ _ _).mono (fun _ e => ⟨fun c => (e.1 c).2, e.2⟩) (Cert.KernelIdealProof.ends_same m g h)

/-- The reference's, from any memory; -/
theorem ref_any : Cert.quiescent_ReferenceIdeal := fun m g _ =>
  (θ_run _ _ _).mono (fun _ e => ⟨fun c => (e.1 c).2, e.2⟩) (Cert.RefProof.run_ref m g)

/-- under `exchanged`; -/
theorem ref_exchanged : Cert.quiescent_ReferenceIdeal_pre_exchanged_ReferenceIdeal := fun m g _ => ref_any m g trivial

/-- under `identity`. -/
theorem ref_same : Cert.quiescent_ReferenceIdeal_pre_identity_ReferenceIdeal := fun m g _ => ref_any m g trivial

/-- Under `exchanged` every device ends with its block of the reference's result; -/
theorem value_exchanged : Cert.algebraic_KernelIdeal_ReferenceIdeal := fun m g m' g' h ha => by
  refine ⟨_, (θ_run _ _ _).mono (fun r e c => ⟨(e.1 c).1.trans ?_, (e.1 c).2⟩) (Cert.KernelIdealProof.ends_exchanged m g h),
    (θ_run _ _ _).mono (fun r e => e.1 0) (Cert.RefProof.run_ref m' g')⟩
  rw [funext fun d => (ha d).1]
  refine Cert.BlocksProof.blk_exchanged _ _ (fun i => ?_) c
  rw [← (ha c).2]
  exact Cert.WordsProof.exchanged_words _ _ (h c) i

/-- and so under `identity`. -/
theorem value_same : Cert.algebraic_KernelIdeal_ReferenceIdeal_pre_identity_Kernel := fun m g m' g' h ha => by
  refine ⟨_, (θ_run _ _ _).mono (fun r e c => ⟨(e.1 c).1.trans ?_, (e.1 c).2⟩) (Cert.KernelIdealProof.ends_same m g h),
    (θ_run _ _ _).mono (fun r e => e.1 0) (Cert.RefProof.run_ref m' g')⟩
  refine (ha c).1.trans ?_
  refine Cert.BlocksProof.blk_same (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) (fun i => ?_) c
  rw [← (ha c).2]
  exact Cert.WordsProof.identity_words _ _ (h c) i

/-- Every claim. -/
theorem claim : Cert.Claim := ⟨Cert.Kernel.Gen.facts, Cert.KernelIdeal.Gen.facts, Cert.ReferenceIdeal.Gen.facts, Cert.Pre_exchanged_Kernel.Gen.facts, Cert.Pre_identity_Kernel.Gen.facts, Cert.Pre_exchanged_ReferenceIdeal.Gen.facts, Cert.Pre_identity_ReferenceIdeal.Gen.facts,
  bits_exchanged, bits_same, ideal_exchanged, ideal_same, ref_any, ref_exchanged, ref_same, trivial, value_exchanged, value_same⟩

end Cert.Proof

end
